-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_resolved [hKernelIdeal : Cert.KernelIdeal.Facts] [hReferenceIdeal : Cert.ReferenceIdeal.Facts] [hOn_resolved : Cert.On_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 2048]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 2048]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v26) i = v0 c i)
          ∧ (∀ i : (⟨0, ![]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v44) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_resolved : Cert.On_resolved.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_resolved (hKernelIdeal := hKernelIdeal) (hReferenceIdeal := hReferenceIdeal) (hOn_resolved := hOn_resolved)
-- ==== On_resolved.lean ====
abbrev S2x4096x2048 : Shape := ⟨3, ![2, 4096, 2048]⟩
abbrev S16384x2048 : Shape := ⟨2, ![16384, 2048]⟩
abbrev S16384 : Shape := ⟨1, ![16384]⟩
abbrev S2048x16384 : Shape := ⟨2, ![2048, 16384]⟩
abbrev S2x4096x16384 : Shape := ⟨3, ![2, 4096, 16384]⟩
abbrev S1x1x16384 : Shape := ⟨3, ![1, 1, 16384]⟩
abbrev S2x4096x65 : Shape := ⟨3, ![2, 4096, 65]⟩
abbrev S2x4096x1 : Shape := ⟨3, ![2, 4096, 1]⟩
abbrev S2x4096 : Shape := ⟨2, ![2, 4096]⟩
abbrev S_ : Shape := ⟨0, ![]⟩

class Facts : Prop where
  bcast_S16384_S1x1x16384_2 : S16384.BroadcastsInDim S1x1x16384 (![2] : Fin 1 → Fin S1x1x16384.rank)
  bcast_S1x1x16384_S2x4096x16384_0_1_2 : S1x1x16384.BroadcastsInDim S2x4096x16384 (![0, 1, 2] : Fin 3 → Fin S2x4096x16384.rank)
  sliceFits_S2x4096x16384_S2x4096x65 : S2x4096x16384.Slices (fun _ => 0) S2x4096x65
  slices_S2x4096x65_S2x4096x1_0_0_0 : S2x4096x65.Slices ![0, 0, 0] S2x4096x1
  shapeCasts_S2x4096x1_S2x4096 : S2x4096x1.ShapeCasts S2x4096
  slices_S2x4096x65_S2x4096x1_0_0_63 : S2x4096x65.Slices ![0, 0, 63] S2x4096x1
  slices_S2x4096x65_S2x4096x1_0_0_64 : S2x4096x65.Slices ![0, 0, 64] S2x4096x1
  bcast_S_S2x4096 : S_.BroadcastsInDim S2x4096 (![] : Fin 0 → Fin S2x4096.rank)
  reducesTo_S2x4096x16384_S2x4096_d2 : S2x4096x16384.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x2048_0_1_2 : S2x4096x1.BroadcastsInDim S2x4096x2048 (![0, 1, 2] : Fin 3 → Fin S2x4096x2048.rank)
  dot_S2x4096x2048_S16384x2048_S2x4096x16384_2_1_01_0_n_n_wf : DotDims.WF S2x4096x2048 S16384x2048 S2x4096x16384 [2] [1] [0, 1] [0] [] []

variable [Facts]

def dot_S2x4096x2048_S16384x2048_S2x4096x16384_2_1_01_0_n_n : DotDims S2x4096x2048 S16384x2048 S2x4096x16384 where
  lhsContracting := [2]
  rhsContracting := [1]
  lhsNonContracting := [0, 1]
  rhsNonContracting := [0]
  lhsBatch := []
  rhsBatch := []
  wf := dot_S2x4096x2048_S16384x2048_S2x4096x16384_2_1_01_0_n_n_wf
def fn_part1 {F : FTy → Type} [FloatOps F] (main_v17 : FVec F S2x4096 .f32) (main_v18 : FVec F S2x4096 .f32) : IVec S2x4096x2048 1 × IVec S_ 1 :=
  let main_cst_2 : FVec F S_ .f32 := constant S_ .f32 0x48800000#32
  let main_v19 : FVec F S2x4096 .f32 := broadcastInDim S2x4096 ![] bcast_S_S2x4096 main_cst_2
  let main_v20 : FVec F S2x4096 .f32 := mulf main_v18 main_v19
  let main_v21 : IVec S2x4096 1 := cmpf .olt main_v17 main_v20
  let main_v22 : IVec S2x4096x1 1 := broadcastInDim S2x4096x1 ![0, 1] bcast_S2x4096_S2x4096x1_0_1 main_v21
  let main_v23 : IVec S2x4096x2048 1 := broadcastInDim S2x4096x2048 ![0, 1, 2] bcast_S2x4096x1_S2x4096x2048_0_1_2 main_v22
  let main_c : IVec S_ 1 := constantI S_ 1 1#1
  (main_v23, main_c)

def fn {F : FTy → Type} [FloatOps F] (main_arg0 : FVec F S2x4096x2048 .f32) (main_arg1 : FVec F S16384x2048 .f32) (main_arg2 : FVec F S16384 .f32) (main_arg3 : FVec F S2048x16384 .f32) (main_arg4 : IVec S16384 32) : IVec S2x4096x2048 1 × IVec S_ 1 :=
  let main_v0 : FVec F S2x4096x16384 .f32 := (fun l r => Host.dotGeneral dot_S2x4096x2048_S16384x2048_S2x4096x16384_2_1_01_0_n_n none l r) main_arg0 main_arg1
  let main_v1 : FVec F S1x1x16384 .f32 := broadcastInDim S1x1x16384 ![2] bcast_S16384_S1x1x16384_2 main_arg2
  let main_v2 : FVec F S2x4096x16384 .f32 := broadcastInDim S2x4096x16384 ![0, 1, 2] bcast_S1x1x16384_S2x4096x16384_0_1_2 main_v1
  let main_v3 : FVec F S2x4096x16384 .f32 := addf main_v0 main_v2
  let main_values : FVec F S2x4096x65 .f32 := (fun x => (Host.topK S2x4096x65 2 (FloatOps.cmpfTotal .gt) x sliceFits_S2x4096x16384_S2x4096x65).1) main_v3
  let main_indices : IVec S2x4096x65 32 := (fun x => (Host.topK S2x4096x65 2 (FloatOps.cmpfTotal .gt) x sliceFits_S2x4096x16384_S2x4096x65).2) main_v3
  let main_v4 : FVec F S2x4096x1 .f32 := (extractStridedSlice S2x4096x1 ![0, 0, 0] · slices_S2x4096x65_S2x4096x1_0_0_0) main_values
  let main_v5 : FVec F S2x4096 .f32 := shapeCast S2x4096 main_v4 shapeCasts_S2x4096x1_S2x4096
  let main_v6 : FVec F S2x4096x1 .f32 := (extractStridedSlice S2x4096x1 ![0, 0, 63] · slices_S2x4096x65_S2x4096x1_0_0_63) main_values
  let main_v7 : FVec F S2x4096 .f32 := shapeCast S2x4096 main_v6 shapeCasts_S2x4096x1_S2x4096
  let main_v8 : FVec F S2x4096x1 .f32 := (extractStridedSlice S2x4096x1 ![0, 0, 64] · slices_S2x4096x65_S2x4096x1_0_0_64) main_values
  let main_v9 : FVec F S2x4096 .f32 := shapeCast S2x4096 main_v8 shapeCasts_S2x4096x1_S2x4096
  let main_v10 : FVec F S2x4096 .f32 := Host.absf main_v5
  let main_cst : FVec F S_ .f32 := constant S_ .f32 0x3A83126F#32
  let main_v11 : FVec F S2x4096 .f32 := broadcastInDim S2x4096 ![] bcast_S_S2x4096 main_cst
  let main_v12 : FVec F S2x4096 .f32 := mulf main_v10 main_v11
  let main_cst_0 : FVec F S_ .f32 := constant S_ .f32 0x3A83126F#32
  let main_v13 : FVec F S2x4096 .f32 := broadcastInDim S2x4096 ![] bcast_S_S2x4096 main_cst_0
  let main_v14 : FVec F S2x4096 .f32 := addf main_v12 main_v13
  let main_v15 : FVec F S2x4096 .f32 := addf main_v5 main_v14
  let main_cst_1 : FVec F S_ .f32 := constant S_ .f32 0x7F800000#32
  let main_v16 : FVec F S2x4096 .f32 := (fun x v => Host.reduce FloatOps.minimumf x v reducesTo_S2x4096x16384_S2x4096_d2 h_S_) main_v3 main_cst_1
  let main_v17 : FVec F S2x4096 .f32 := subf main_v15 main_v16
  let main_v18 : FVec F S2x4096 .f32 := subf main_v7 main_v9
  fn_part1 (F := F) main_v17 main_v18
-- ==== Kernel.lean ====
abbrev S2x4096x2048 : Shape := ⟨3, ![2, 4096, 2048]⟩
abbrev S16384x2048 : Shape := ⟨2, ![16384, 2048]⟩
abbrev S16384 : Shape := ⟨1, ![16384]⟩
abbrev S2048x16384 : Shape := ⟨2, ![2048, 16384]⟩
abbrev S8192x2048 : Shape := ⟨2, ![8192, 2048]⟩
abbrev S1x16384 : Shape := ⟨2, ![1, 16384]⟩
abbrev S8192x16384 : Shape := ⟨2, ![8192, 16384]⟩
abbrev S1x1 : Shape := ⟨2, ![1, 1]⟩
abbrev S_ : Shape := ⟨0, ![]⟩
abbrev S512x2048 : Shape := ⟨2, ![512, 2048]⟩
abbrev S2048x2048 : Shape := ⟨2, ![2048, 2048]⟩
abbrev S1x2048 : Shape := ⟨2, ![1, 2048]⟩
abbrev S2048 : Shape := ⟨1, ![2048]⟩
abbrev S1x512x2048 : Shape := ⟨3, ![1, 512, 2048]⟩
abbrev S1 : Shape := ⟨1, ![1]⟩
abbrev S1x1x1 : Shape := ⟨3, ![1, 1, 1]⟩
abbrev S128x16384 : Shape := ⟨2, ![128, 16384]⟩
abbrev S128x128x128 : Shape := ⟨3, ![128, 128, 128]⟩
abbrev S128x128 : Shape := ⟨2, ![128, 128]⟩
abbrev S128 : Shape := ⟨1, ![128]⟩
abbrev S128x1 : Shape := ⟨2, ![128, 1]⟩
abbrev S1024x2048 : Shape := ⟨2, ![1024, 2048]⟩

abbrev nBuf : Space → Nat
  | .hbm => 36
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S16384, .i32⟩
  | .hbm, ⟨5, _⟩ => ⟨S8192x2048, .f32⟩
  | .hbm, ⟨6, _⟩ => ⟨S8192x2048, .bf16⟩
  | .hbm, ⟨7, _⟩ => ⟨S16384x2048, .bf16⟩
  | .hbm, ⟨8, _⟩ => ⟨S1x16384, .f32⟩
  | .hbm, ⟨9, _⟩ => ⟨S1x16384, .i32⟩
  | .hbm, ⟨10, _⟩ => ⟨S8192x16384, .f32⟩
  | .hbm, ⟨11, _⟩ => ⟨S1x1, .f32⟩
  | .hbm, ⟨12, _⟩ => ⟨S8192x16384, .bf16⟩
  | .hbm, ⟨13, _⟩ => ⟨S2048x16384, .bf16⟩
  | .hbm, ⟨14, _⟩ => ⟨S8192x2048, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .i32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .i32⟩
  | .local _ .vmem, ⟨7, _⟩ => ⟨S1x2048, .i32⟩
  | .local _ .vmem, ⟨8, _⟩ => ⟨S512x2048, .f32⟩
  | .local _ .vmem, ⟨9, _⟩ => ⟨S512x2048, .f32⟩
  | .local _ .vmem, ⟨10, _⟩ => ⟨S1x1, .f32⟩
  | .local _ .vmem, ⟨11, _⟩ => ⟨S128x16384, .f32⟩
  | .local _ .vmem, ⟨12, _⟩ => ⟨S128x16384, .f32⟩
  | .local _ .vmem, ⟨13, _⟩ => ⟨S128x16384, .bf16⟩
  | .local _ .vmem, ⟨14, _⟩ => ⟨S128x16384, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S2048x2048, .bf16⟩
  | .local _ .vmem, ⟨19, _⟩ => ⟨S1024x2048, .f32⟩
  | .local _ .vmem, ⟨20, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5_0 : Ref sig .tc := ⟨.hbm, 10, rfl⟩
abbrev main_call0_v5_1 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_c_1 : Ref sig .tc := ⟨.hbm, 21, rfl⟩
abbrev main_call0_v13 : Ref sig .tc := ⟨.hbm, 22, rfl⟩
abbrev main_call0_c_2 : Ref sig .tc := ⟨.hbm, 23, rfl⟩
abbrev main_call0_v14 : Ref sig .tc := ⟨.hbm, 24, rfl⟩
abbrev main_call0_v15 : Ref sig .tc := ⟨.hbm, 25, rfl⟩
abbrev main_call0_c_3 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_cst : Ref sig .tc := ⟨.hbm, 31, rfl⟩
abbrev main_call0_v20 : Ref sig .tc := ⟨.hbm, 32, rfl⟩
abbrev main_call0_cst_4 : Ref sig .tc := ⟨.hbm, 33, rfl⟩
abbrev main_v0_1 : Ref sig .tc := ⟨.hbm, 34, rfl⟩
abbrev main_v0_0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨1, ![64], ![false]⟩

@[reducible] def k1_t1_loop : Scf.Loop 32 :=
  let c0_i32 : BitVec 32 := 0#32
  let c20_i32 : BitVec 32 := 20#32
  let v14 : BitVec 32 := Scalar.addi c0_i32 c20_i32
  let c1_i32 : BitVec 32 := 1#32
  ⟨c0_i32, v14, c1_i32⟩
@[reducible] def k1_t2_loop : Scf.Loop 32 :=
  let c0_i32_5 : BitVec 32 := 0#32
  let c18_i32 : BitVec 32 := 18#32
  let v16 : BitVec 32 := Scalar.addi c0_i32_5 c18_i32
  let c1_i32_6 : BitVec 32 := 1#32
  ⟨c0_i32_5, v16, c1_i32_6⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x16384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]
-- ==== ReferenceIdeal.lean ====
abbrev S2x4096x2048 : Shape := ⟨3, ![2, 4096, 2048]⟩
abbrev S16384x2048 : Shape := ⟨2, ![16384, 2048]⟩
abbrev S16384 : Shape := ⟨1, ![16384]⟩
abbrev S2048x16384 : Shape := ⟨2, ![2048, 16384]⟩
abbrev S2x4096x16384 : Shape := ⟨3, ![2, 4096, 16384]⟩
abbrev S1x1x16384 : Shape := ⟨3, ![1, 1, 16384]⟩
abbrev S2x4096x64 : Shape := ⟨3, ![2, 4096, 64]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S8192x16384 : Shape := ⟨2, ![8192, 16384]⟩
abbrev S8192x64x1 : Shape := ⟨3, ![8192, 64, 1]⟩
abbrev S8192x64x2 : Shape := ⟨3, ![8192, 64, 2]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S16384, .i32⟩
  | .hbm, ⟨5, _⟩ => ⟨S2x4096x16384, .f32⟩
  | .hbm, ⟨6, _⟩ => ⟨S1x1x16384, .f32⟩
  | .hbm, ⟨7, _⟩ => ⟨S2x4096x16384, .f32⟩
  | .hbm, ⟨8, _⟩ => ⟨S2x4096x16384, .f32⟩
  | .hbm, ⟨9, _⟩ => ⟨S2x4096x64, .f32⟩
  | .hbm, ⟨10, _⟩ => ⟨S2x4096x64, .i32⟩
  | .hbm, ⟨11, _⟩ => ⟨S8192x64, .i32⟩
  | .hbm, ⟨12, _⟩ => ⟨S8192x64, .f32⟩
  | .hbm, ⟨13, _⟩ => ⟨S8192, .i32⟩
  | .hbm, ⟨14, _⟩ => ⟨S8192x1, .i32⟩
  | .hbm, ⟨15, _⟩ => ⟨S_, .f32⟩
  | .hbm, ⟨16, _⟩ => ⟨S8192x16384, .f32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S_, .i32⟩
  | .hbm, ⟨21, _⟩ => ⟨S8192x1, .i32⟩
  | .hbm, ⟨22, _⟩ => ⟨S8192x1, .i32⟩
  | .hbm, ⟨23, _⟩ => ⟨S8192x1, .i32⟩
  | .hbm, ⟨24, _⟩ => ⟨S_, .i32⟩
  | .hbm, ⟨25, _⟩ => ⟨S8192x64, .i32⟩
  | .hbm, ⟨26, _⟩ => ⟨S8192x64, .i1⟩
  | .hbm, ⟨27, _⟩ => ⟨S_, .i32⟩
  | .hbm, ⟨28, _⟩ => ⟨S8192x64, .i32⟩
  | .hbm, ⟨29, _⟩ => ⟨S8192x64, .i32⟩
  | .hbm, ⟨30, _⟩ => ⟨S8192x64, .i32⟩
  | .hbm, ⟨31, _⟩ => ⟨S8192x64, .i32⟩
  | .hbm, ⟨32, _⟩ => ⟨S8192x64x1, .i32⟩
  | .hbm, ⟨33, _⟩ => ⟨S8192x64x1, .i32⟩
  | .hbm, ⟨34, _⟩ => ⟨S8192x64x2, .i32⟩
  | .hbm, ⟨35, _⟩ => ⟨S8192x16384, .f32⟩
  | .hbm, ⟨36, _⟩ => ⟨S16384x2048, .f32⟩
  | .hbm, ⟨37, _⟩ => ⟨S8192x2048, .f32⟩
  | .hbm, ⟨38, _⟩ => ⟨S2x4096x2048, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S16384, .i32⟩
  | .hbm, ⟨43, _⟩ => ⟨S_, .i32⟩
  | .hbm, ⟨44, _⟩ => ⟨S_, .i32⟩
  | .hbm, ⟨45, _⟩ => ⟨S16384, .f32⟩
  | .hbm, ⟨46, _⟩ => ⟨S1x1x16384, .f32⟩
  | .hbm, ⟨47, _⟩ => ⟨S2x4096x16384, .f32⟩
  | .hbm, ⟨48, _⟩ => ⟨S2x4096x16384, .f32⟩
  | .hbm, ⟨49, _⟩ => ⟨S_, .f32⟩
  | .hbm, ⟨50, _⟩ => ⟨S_, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .i32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Run.lean ====
/-
  Every execution of the idealized kernel, read at its two results: each ends at the contents of the last boundary of @main,
  the arguments as launched.
-/
module

public import proofs.«01_k».proof.Proof.Gen.KernelIdeal.Frame

@[expose] public section

set_option maxRecDepth 16384

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution of @main terminates with its two results at the contents of the last boundary and its
    arguments as launched: the launch over the segments, its last thread state read at those arrays. -/
theorem run : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v0_0 (by decide)),
       h c _ (mem_uc main_v0_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Run

end
-- ==== Proof.Blocks.lean ====
/-
  What the array-level readings of the three kernels share: a whole-block rectangle's zero offsets, a cast between a type and
  itself, and a sum over an axis cut into equal blocks.
-/
module

public import Idealize.ShloMosaic.Lib.Tactic
public import Mathlib.Data.EReal.Operations
public import Mathlib.Algebra.BigOperators.Fin

@[expose] public section

namespace Cert.Blocks

/-- The offsets of a whole two-axis block are zero. -/
theorem hz : (![0, 0] : Fin 2 → Nat) = fun _ => 0 := funext fun a => by fin_cases a <;> rfl

/-- A cast between a type and itself changes nothing. -/
theorem cast_same {α : Type} (h : α = α) (a b : α) (e : a = b) : cast h a = b := e

/-- A sum over `J` blocks of `K` terms each is the sum over all `J * K` terms, block after block. -/
theorem sum_blocks {β : Type*} [AddCommMonoid β] (J K : ℕ) (f : Fin (J * K) → β) (g : ℕ → Fin K → β)
    (h : ∀ (s : Fin J) (k : Fin K) (hb : s.val * K + k.val < J * K), g s.val k = f ⟨s.val * K + k.val, hb⟩) :
    ∑ s ∈ Finset.range J, ∑ k : Fin K, g s k = ∑ c : Fin (J * K), f c := by
  rw [Finset.sum_range, ← Equiv.sum_comp finProdFinEquiv f, Fintype.sum_prod_type]
  refine Finset.sum_congr rfl fun s _ => Finset.sum_congr rfl fun k _ => ?_
  have hb : s.val * K + k.val < J * K := by
    have h1 := s.isLt
    have h2 := k.isLt
    calc s.val * K + k.val < s.val * K + K := by omega
      _ = (s.val + 1) * K := by ring
      _ ≤ J * K := Nat.mul_le_mul_right _ h1
  rw [h s k hb]
  congr 1
  apply Fin.ext
  show s.val * K + k.val = k.val + K * s.val
  ring

/-- A sum over the points of a `J` by `I` grid, each summing one `A` by `B` block of a table, is the sum over the table. -/
theorem sum_grid {β : Type*} [AddCommMonoid β] (J I A B : ℕ) (g : Fin (I * A) → Fin (J * B) → β) (p : ℕ → Fin A → Fin B → β)
    (h : ∀ (j : Fin J) (i : Fin I) (r : Fin A) (f : Fin B) (hr : i.val * A + r.val < I * A) (hf : j.val * B + f.val < J * B),
      p (j.val * I + i.val) r f = g ⟨i.val * A + r.val, hr⟩ ⟨j.val * B + f.val, hf⟩) :
    ∑ s ∈ Finset.range (J * I), ∑ r : Fin A, ∑ f : Fin B, p s r f = ∑ n : Fin (I * A), ∑ m : Fin (J * B), g n m := by
  have hlt : ∀ {X K : ℕ} (s : Fin X) (k : Fin K), s.val * K + k.val < X * K := fun {X K} s k => by
    have h1 := s.isLt
    have h2 := k.isLt
    calc s.val * K + k.val < s.val * K + K := by omega
      _ = (s.val + 1) * K := by ring
      _ ≤ X * K := Nat.mul_le_mul_right _ h1
  rw [Finset.sum_range, ← sum_blocks J I (fun s : Fin (J * I) => ∑ r : Fin A, ∑ f : Fin B, p s.val r f)
    (fun j i => ∑ r : Fin A, ∑ f : Fin B, p (j * I + i.val) r f) (fun _ _ _ => rfl)]
  have e : ∀ n, ∑ m : Fin (J * B), g n m = ∑ j : Fin J, ∑ f : Fin B, g n ⟨j.val * B + f.val, hlt j f⟩ := fun n => by
    rw [← Equiv.sum_comp finProdFinEquiv (g n), Fintype.sum_prod_type]
    refine Finset.sum_congr rfl fun j _ => Finset.sum_congr rfl fun f _ => congrArg (g n) (Fin.ext ?_)
    show f.val + B * j.val = j.val * B + f.val
    ring
  simp only [e]
  rw [Finset.sum_range]
  refine Eq.trans ?_ Finset.sum_comm
  refine Finset.sum_congr rfl fun j _ => ?_
  rw [← Equiv.sum_comp finProdFinEquiv (fun n : Fin (I * A) => ∑ f : Fin B, g n ⟨j.val * B + f.val, hlt j f⟩), Fintype.sum_prod_type]
  refine Finset.sum_congr rfl fun i _ => Finset.sum_congr rfl fun r _ => Finset.sum_congr rfl fun f _ => ?_
  rw [h j i r f (hlt i r) (hlt j f)]
  refine congrArg (fun n => g n ⟨j.val * B + f.val, hlt j f⟩) (Fin.ext ?_)
  show i.val * A + r.val = r.val + A * i.val
  ring

end Cert.Blocks
-- ==== Proof.Encode.lean ====
/-
  The two arrays the encoding kernel leaves: the pre-activations, and the sum of all those of dead features. The first is
  written block by block; the second is one number that every point adds its own block's sum to.
-/
module

public import proofs.«01_k».proof.Proof.Blocks
public import proofs.«01_k».proof.Proof.Gen.KernelIdeal.Frame
public import Idealize.ShloMosaic.Lib.ValueLayout
public import Idealize.ShloMosaic.Lib.MatmulPlain
public import Idealize.ShloMosaic.Lib.Pointwise.Reduce
public import Idealize.ShloMosaic.Lib.Pipeline.Value

@[expose] public section

set_option maxRecDepth 16384

noncomputable section

namespace Cert.Encode

open Idealize.ShloMosaic hiding ix2 ix3 eq_ix2
open Idealize.ShloMosaic.TcCoe Idealize.ShloMosaic.ValueIdx Idealize.SL.Sem
open Idealize.ShloMosaic.Pipeline (Dat)
open Cert.KernelIdeal Cert.KernelIdeal.Gen Cert.Blocks

/-- One where a feature has not fired for 1000 steps, else zero. -/
def dead (w : BitVec 32) : EReal := if Scalar.cmpi .sge w 1000#32 = 1#1 then 1 else 0

/-- The kernel's way to it: the comparison's bit, widened and converted as a signed word. -/
theorem dead_signed (w : BitVec 32) :
    FloatOps.sitofp (F := Ideal) .f32 (Scalar.extui (Scalar.cmpi .sge w 1000#32) : BitVec 32) = dead w := by
  unfold dead
  generalize Scalar.cmpi .sge w 1000#32 = b
  show (((Scalar.extui b : BitVec 32).toInt : ℝ) : EReal) = _
  rcases BitVec.eq_zero_or_eq_one b with rfl | rfl
  · rw [if_neg (by decide), show (Scalar.extui 0#1 : BitVec 32).toInt = 0 by decide]; simp
  · rw [if_pos rfl, show (Scalar.extui 1#1 : BitVec 32).toInt = 1 by decide]; simp

/-- An entry of a point's block of pre-activations. -/
theorem block_apply (x0 : Vec Ideal S512x2048 .bf16) (x1 : Vec Ideal S2048x2048 .bf16) (x2 : Vec Ideal S1x2048 .f32)
    (r : Fin 512) (f : Fin 2048) :
    k0_pay1 x0 x1 x2 (ix2 r f) = (∑ k : Fin 2048, x0 (ix2 r k) * x1 (ix2 f k)) + x2 (ix2 0 f) := by
  unfold k0_pay1
  simp only [shapeCast_self]
  refine (congrArg₂ (· + ·) (Ideal.matmul_transposedRhs_apply (M := 512) (K := 2048) (N := 2048) none x0 x1
    (constant S512x2048 .f32 0x00000000#32) r f) (broadcastTo_1b_ab_apply x2 _ r f)).trans ?_
  show (Ideal.ofBits .f32 0x00000000#32 + _) + _ = _
  rw [Ideal.ofBits_zero_f32, zero_add]

/-- The mark of dead features, spread over a block's rows. -/
theorem mark_apply (x3 : Vec Ideal S1x2048 .i32) (h : S1x2048.ShapeCasts S2048) (h' : S2048.ShapeCasts S1x2048)
    (hb : S1x2048.Broadcasts S512x2048) (r : Fin 512) (f : Fin 2048) :
    broadcastTo S512x2048 (shapeCast S1x2048 (shapeCast S2048 (sitofp (F := Ideal) .f32 (extui 32 (cmpi .sge x3 (broadcast S1x2048 1000#32)) natLt_1_32)) h) h') hb
      (ix2 r f) = dead (x3 (ix2 0 f)) := by
  refine (broadcastTo_1b_ab_apply _ _ r f).trans ?_
  rw [shapeCast_shapeCast]
  exact dead_signed (x3 (ix2 0 f))

/-- The one entry of a one-entry vector, taken out and spread. -/
theorem extract_apply (v : FVec Ideal S1 .f32) (h : S1.ShapeCasts S1x1x1) (h' : ∀ a, (![0, 0, 0] : Fin 3 → Nat) a < S1x1x1.size a)
    (z : EReal) (hv : ∀ j, v j = z) (i : S1x1.Idx) :
    broadcast S1x1 (extractAt ![0, 0, 0] (shapeCast S1x1x1 v h) h') i = z := hv _

/-- The sum over a block. -/
theorem total_apply (v : FVec Ideal S512x2048 .f32) (h : S512x2048.ShapeCasts S1x512x2048) (hr : S1x512x2048.Reduces [1, 2] S1) (j : S1.Idx) :
    multiReduction .add [1, 2] S1 (shapeCast S1x512x2048 v h) 0x00000000#32 hr (.inl rfl) rfl j
      = ∑ r : Fin 512, ∑ f : Fin 2048, v (ix2 r f) := by
  refine (Ideal.reduceAdd_r3_a12 (n0 := 1) (n1 := 512) (n2 := 2048) hr _ _).trans ?_
  refine Finset.sum_congr rfl fun r _ => Finset.sum_congr rfl fun f _ => ?_
  refine shapeCast_apply _ _ _ (ix2 r f) ?_
  rw [Shape.rowMajor_val_three, Shape.rowMajor_val_two]
  have hj : (j 0).val = 0 := by have := (j 0).isLt; exact Nat.lt_one_iff.mp this
  show r.val * 2048 + f.val = ((j 0).val * 512 + r.val) * 2048 + f.val
  omega

/-- One point's step: the sum so far plus the sum over the point's block of the dead features' pre-activations. -/
theorem step_apply (x0 : Vec Ideal S512x2048 .bf16) (x1 : Vec Ideal S2048x2048 .bf16) (x2 : Vec Ideal S1x2048 .f32)
    (x3 : Vec Ideal S1x2048 .i32) (acc : Vec Ideal S1x1 .f32) (i : S1x1.Idx) :
    k0_pay3 x0 x1 x2 x3 acc i = acc i + ∑ r : Fin 512, ∑ f : Fin 2048, k0_pay1 x0 x1 x2 (ix2 r f) * dead (x3 (ix2 0 f)) := by
  unfold k0_pay3
  generalize k0_pay1 x0 x1 x2 = p
  simp only [shapeCast_self]
  refine congrArg (acc i + ·) (extract_apply _ _ _ _ (fun j => (total_apply _ _ _ j).trans ?_) i)
  exact Finset.sum_congr rfl fun r _ => Finset.sum_congr rfl fun f _ => congrArg (p (ix2 r f) * ·) (mark_apply x3 _ _ _ r f)

/-- The first point leaves its block of pre-activations. -/
theorem out_A_4 (c : Dev nD) (i : grid0.Coords) (a2 : Memref sig .tc .vmem S512x2048 .bf16) (h2 : a2.IsWhole)
    (a3 : Memref sig .tc .vmem S2048x2048 .bf16) (h3 : a3.IsWhole) (a4 : Memref sig .tc .vmem S1x2048 .f32) (h4 : a4.IsWhole)
    (a5 : Memref sig .tc .vmem S1x2048 .i32) (h5 : a5.IsWhole) (a6 : Memref sig .tc .vmem S512x2048 .f32) (h6 : a6.IsWhole)
    (a7 : Memref sig .tc .vmem S1x1 .f32) (h7 : a7.IsWhole)
    (hc : cond0_0 i) (x0 : Vec Ideal S512x2048 .bf16) (x1 : Vec Ideal S2048x2048 .bf16) (x2 : Vec Ideal S1x2048 .f32)
    (x3 : Vec Ideal S1x2048 .i32) :
    out0_A_4 c i a2 h2 a3 h3 a4 h4 a5 h5 a6 h6 a7 h7 hc x0 x1 x2 x3 = k0_pay1 x0 x1 x2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero (S := S512x2048) hz]
  simp only [View.readAt_eq_ld, h2.read_unread, h3.read_unread, h4.read_unread, h5.read_unread,
    View.ld_unit_zero (S := S512x2048) hz, View.ld_unit_zero (S := S2048x2048) hz, View.ld_unit_zero (S := S1x2048) hz]

/-- So does every later point. -/
theorem out_B_4 (c : Dev nD) (i : grid0.Coords) (a2 : Memref sig .tc .vmem S512x2048 .bf16) (h2 : a2.IsWhole)
    (a3 : Memref sig .tc .vmem S2048x2048 .bf16) (h3 : a3.IsWhole) (a4 : Memref sig .tc .vmem S1x2048 .f32) (h4 : a4.IsWhole)
    (a5 : Memref sig .tc .vmem S1x2048 .i32) (h5 : a5.IsWhole) (a6 : Memref sig .tc .vmem S512x2048 .f32) (h6 : a6.IsWhole)
    (a7 : Memref sig .tc .vmem S1x1 .f32) (h7 : a7.IsWhole)
    (hc : ¬cond0_0 i) (x0 : Vec Ideal S512x2048 .bf16) (x1 : Vec Ideal S2048x2048 .bf16) (x2 : Vec Ideal S1x2048 .f32)
    (x3 : Vec Ideal S1x2048 .i32) (xo : Vec Ideal S1x1 .f32) :
    out0_B_4 c i a2 h2 a3 h3 a4 h4 a5 h5 a6 h6 a7 h7 hc x0 x1 x2 x3 xo = k0_pay1 x0 x1 x2 := by
  unfold out0_B_4
  rw [View.read_writes_eq_canon _ _ _ (cover0_B_4 c i a2 h2 a3 h3 a4 h4 a5 h5 a6 h6 a7 h7 hc x0 x1 x2 x3 xo)]
  unfold kernelRun0_B
  dsimp only
  sl_unfold_words
  rw [View.canon_unit_zero (S := S512x2048) hz]
  simp only [View.readAt_eq_ld, h2.read_unread, h3.read_unread, h4.read_unread, h5.read_unread,
    View.ld_unit_zero (S := S512x2048) hz, View.ld_unit_zero (S := S2048x2048) hz, View.ld_unit_zero (S := S1x2048) hz]

/-- The first point leaves the sum's step over zero. -/
theorem out_A_5 (c : Dev nD) (i : grid0.Coords) (a2 : Memref sig .tc .vmem S512x2048 .bf16) (h2 : a2.IsWhole)
    (a3 : Memref sig .tc .vmem S2048x2048 .bf16) (h3 : a3.IsWhole) (a4 : Memref sig .tc .vmem S1x2048 .f32) (h4 : a4.IsWhole)
    (a5 : Memref sig .tc .vmem S1x2048 .i32) (h5 : a5.IsWhole) (a6 : Memref sig .tc .vmem S512x2048 .f32) (h6 : a6.IsWhole)
    (a7 : Memref sig .tc .vmem S1x1 .f32) (h7 : a7.IsWhole)
    (hc : cond0_0 i) (x0 : Vec Ideal S512x2048 .bf16) (x1 : Vec Ideal S2048x2048 .bf16) (x2 : Vec Ideal S1x2048 .f32)
    (x3 : Vec Ideal S1x2048 .i32) :
    out0_A_5 c i a2 h2 a3 h3 a4 h4 a5 h5 a6 h6 a7 h7 hc x0 x1 x2 x3 = k0_pay3 x0 x1 x2 x3 (k0_pay2 (F := Ideal)) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S512x2048) hz, View.ld_unit_zero (S := S2048x2048) hz, View.ld_unit_zero (S := S1x2048) hz]

/-- Every later point leaves the step over what the point before left. -/
theorem out_B_5 (c : Dev nD) (i : grid0.Coords) (a2 : Memref sig .tc .vmem S512x2048 .bf16) (h2 : a2.IsWhole)
    (a3 : Memref sig .tc .vmem S2048x2048 .bf16) (h3 : a3.IsWhole) (a4 : Memref sig .tc .vmem S1x2048 .f32) (h4 : a4.IsWhole)
    (a5 : Memref sig .tc .vmem S1x2048 .i32) (h5 : a5.IsWhole) (a6 : Memref sig .tc .vmem S512x2048 .f32) (h6 : a6.IsWhole)
    (a7 : Memref sig .tc .vmem S1x1 .f32) (h7 : a7.IsWhole)
    (hc : ¬cond0_0 i) (x0 : Vec Ideal S512x2048 .bf16) (x1 : Vec Ideal S2048x2048 .bf16) (x2 : Vec Ideal S1x2048 .f32)
    (x3 : Vec Ideal S1x2048 .i32) (xo : Vec Ideal S1x1 .f32) :
    out0_B_5 c i a2 h2 a3 h3 a4 h4 a5 h5 a6 h6 a7 h7 hc x0 x1 x2 x3 xo = k0_pay3 x0 x1 x2 x3 xo := by
  unfold out0_B_5
  rw [View.read_writes_eq_canon _ _ _ (cover0_B_5 c i a2 h2 a3 h3 a4 h4 a5 h5 a6 h6 a7 h7 hc x0 x1 x2 x3 xo)]
  unfold kernelRun0_B
  dsimp only
  sl_unfold_words
  rw [View.canon_unit_zero (S := S1x1) hz]
  simp only [View.readAt_eq_ld, h2.read_unread, h3.read_unread, h4.read_unread, h5.read_unread, h7.read_unread,
    View.ld_unit_zero (S := S512x2048) hz, View.ld_unit_zero (S := S2048x2048) hz, View.ld_unit_zero (S := S1x2048) hz, View.ld_unit_zero (S := S1x1) hz]

variable (V : (c : Dev nD) → (b : Ref sig .tc) → Buf (Elt Ideal) ((c : Thread nD τ).loc b))

/-- The input's rows. -/
def input (c : Dev nD) (i : S8192x2048.Idx) : EReal := V c main_call0_v1 i
/-- The encoder's matrix. -/
def weight (c : Dev nD) (i : S16384x2048.Idx) : EReal := V c main_call0_v2 i
/-- The encoder's bias. -/
def bias (c : Dev nD) (i : S1x16384.Idx) : EReal := V c main_call0_v3 i
/-- How long each feature has not fired. -/
def steps (c : Dev nD) (i : S1x16384.Idx) : BitVec 32 := V c main_call0_v4 i

/-- The pre-activation of feature `f` at row `n`. -/
def entry (c : Dev nD) (n : Fin 8192) (f : Fin 16384) : EReal :=
  (∑ k : Fin 2048, input V c (ix2 n k) * weight V c (ix2 f k)) + bias V c (ix2 0 f)

/-- The sum of all the dead features' pre-activations. -/
def deadSum (c : Dev nD) : EReal :=
  ∑ n : Fin 8192, ∑ f : Fin 16384, entry V c n f * dead (steps V c (ix2 0 f))

/-- The array of pre-activations the kernel leaves. -/
def encoded (c : Dev nD) : Buf (Elt Ideal) ((c : Thread nD τ).loc main_call0_v5_0) :=
  fun (i : S8192x16384.Idx) => entry V c (i 0) (i 1)

/-- The one-entry array of the sum the kernel leaves. -/
def summed (c : Dev nD) : Buf (Elt Ideal) ((c : Thread nD τ).loc main_call0_v5_1) :=
  fun (_ : S1x1.Idx) => deadSum V c

/-- The array's entry at a row and a feature. -/
theorem encoded_at (c : Dev nD) {i : S8192x16384.Idx} {n : Fin 8192} {f : Fin 16384} (h : i = ix2 n f) :
    (encoded V c : S8192x16384.Idx → EReal) i = entry V c n f := by subst h; rfl

/-- Point `t` reads row block `t % 16` of the input. -/
theorem idx_0 : ∀ t : Fin grid0.N, win0_0.index t 0 = t.val % 16 ∧ win0_0.index t 1 = 0 := by decide +kernel
/-- Point `t` reads row block `t / 16` of the encoder's matrix. -/
theorem idx_1 : ∀ t : Fin grid0.N, win0_1.index t 0 = t.val / 16 ∧ win0_1.index t 1 = 0 := by decide +kernel
/-- Point `t` reads block `t / 16` of the bias. -/
theorem idx_2 : ∀ t : Fin grid0.N, win0_2.index t 0 = 0 ∧ win0_2.index t 1 = t.val / 16 := by decide +kernel
/-- Point `t` reads block `t / 16` of the features' ages. -/
theorem idx_3 : ∀ t : Fin grid0.N, win0_3.index t 0 = 0 ∧ win0_3.index t 1 = t.val / 16 := by decide +kernel
/-- Point `t` writes row block `t % 16` and column block `t / 16` of the pre-activations. -/
theorem idx_4 : ∀ t : Fin grid0.N, win0_4.index t 0 = t.val % 16 ∧ win0_4.index t 1 = t.val / 16 := by decide +kernel
/-- Every point writes the one entry of the sum. -/
theorem idx_5 : ∀ t : Fin grid0.N, win0_5.index t 0 = 0 ∧ win0_5.index t 1 = 0 := by decide +kernel

/-- Row `r` of the blocks at point `n`. -/
def rowOf (n : ℕ) (r : Fin 512) : Fin 8192 := ⟨n % 16 * 512 + r.val, by omega⟩
/-- Column `f` of the blocks at point `n`. -/
def colOf (n : ℕ) (f : Fin 2048) : Fin 16384 := ⟨n / 16 % 8 * 2048 + f.val, by omega⟩

/-- An entry of the point's block of the input. -/
theorem iblk_input (c : Dev nD) (t : Fin cfg0.N) (r : Fin 512) (k : Fin 2048) :
    (iblk0 V c 0 t : Vec Ideal S512x2048 .bf16) (ix2 r k) = input V c (ix2 (rowOf t.val r) k) := by
  unfold iblk0
  rw [View.read_apply]
  show V c main_call0_v1 _ = V c main_call0_v1 _
  congr 1
  funext a
  apply Fin.ext
  match a with
  | ⟨0, _⟩ => show win0_0.index t 0 * 512 + 1 * r.val = t.val % 16 * 512 + r.val; rw [(idx_0 t).1]; omega
  | ⟨1, _⟩ => show win0_0.index t 1 * 2048 + 1 * k.val = k.val; rw [(idx_0 t).2]; omega

/-- An entry of the point's block of the encoder's matrix. -/
theorem iblk_weight (c : Dev nD) (t : Fin cfg0.N) (f : Fin 2048) (k : Fin 2048) :
    (iblk0 V c 1 t : Vec Ideal S2048x2048 .bf16) (ix2 f k) = weight V c (ix2 (colOf t.val f) k) := by
  have ht : t.val < 128 := t.isLt
  unfold iblk0
  rw [View.read_apply]
  show V c main_call0_v2 _ = V c main_call0_v2 _
  congr 1
  funext a
  apply Fin.ext
  match a with
  | ⟨0, _⟩ => show win0_1.index t 0 * 2048 + 1 * f.val = t.val / 16 % 8 * 2048 + f.val; rw [(idx_1 t).1]; omega
  | ⟨1, _⟩ => show win0_1.index t 1 * 2048 + 1 * k.val = k.val; rw [(idx_1 t).2]; omega

/-- An entry of the point's block of the bias. -/
theorem iblk_bias (c : Dev nD) (t : Fin cfg0.N) (f : Fin 2048) :
    (iblk0 V c 2 t : Vec Ideal S1x2048 .f32) (ix2 0 f) = bias V c (ix2 0 (colOf t.val f)) := by
  have ht : t.val < 128 := t.isLt
  unfold iblk0
  rw [View.read_apply]
  show V c main_call0_v3 _ = V c main_call0_v3 _
  congr 1
  funext a
  apply Fin.ext
  match a with
  | ⟨0, _⟩ => show win0_2.index t 0 * 1 + 1 * 0 = 0; rw [(idx_2 t).1]
  | ⟨1, _⟩ => show win0_2.index t 1 * 2048 + 1 * f.val = t.val / 16 % 8 * 2048 + f.val; rw [(idx_2 t).2]; omega

/-- An entry of the point's block of the features' ages. -/
theorem iblk_steps (c : Dev nD) (t : Fin cfg0.N) (f : Fin 2048) :
    (iblk0 V c 3 t : Vec Ideal S1x2048 .i32) (ix2 0 f) = steps V c (ix2 0 (colOf t.val f)) := by
  have ht : t.val < 128 := t.isLt
  unfold iblk0
  rw [View.read_apply]
  show V c main_call0_v4 _ = V c main_call0_v4 _
  congr 1
  funext a
  apply Fin.ext
  match a with
  | ⟨0, _⟩ => show win0_3.index t 0 * 1 + 1 * 0 = 0; rw [(idx_3 t).1]
  | ⟨1, _⟩ => show win0_3.index t 1 * 2048 + 1 * f.val = t.val / 16 % 8 * 2048 + f.val; rw [(idx_3 t).2]; omega

/-- A point's block of pre-activations, at an entry. -/
theorem block_entry (c : Dev nD) (t : Fin cfg0.N) (r : Fin 512) (f : Fin 2048) :
    k0_pay1 (F := Ideal) (iblk0 V c 0 t) (iblk0 V c 1 t) (iblk0 V c 2 t) (ix2 r f) = entry V c (rowOf t.val r) (colOf t.val f) := by
  refine (block_apply _ _ _ r f).trans ?_
  unfold entry
  simp only [iblk_input, iblk_weight, iblk_bias]

/-- What point `n` adds to the sum. -/
def part (c : Dev nD) (n : ℕ) : EReal :=
  ∑ r : Fin 512, ∑ f : Fin 2048, entry V c (rowOf n r) (colOf n f) * dead (steps V c (ix2 0 (colOf n f)))

/-- A point adds its part of the sum to what it finds. -/
theorem step_part (c : Dev nD) (t : Fin cfg0.N) (acc : Vec Ideal S1x1 .f32) (i : S1x1.Idx) :
    k0_pay3 (F := Ideal) (iblk0 V c 0 t) (iblk0 V c 1 t) (iblk0 V c 2 t) (iblk0 V c 3 t) acc i = acc i + part V c t.val := by
  refine (step_apply _ _ _ _ acc i).trans ?_
  unfold part
  simp only [block_entry, iblk_steps]

/-- Every point leaves the pre-activations of its blocks. -/
theorem outs_block (c : Dev nD) (t : Fin cfg0.N) :
    (outsAt0 V c t.val t.isLt).1 = k0_pay1 (iblk0 V c 0 t) (iblk0 V c 1 t) (iblk0 V c 2 t) := by
  by_cases h : t.val % 128 = 0
  · rw [outsAt0_A V c t h]
    dsimp only
    exact out_A_4 ..
  · rw [outsAt0_B V c t h]
    dsimp only
    exact out_B_4 ..

/-- The first point leaves its part of the sum over zero. -/
theorem outs_first (c : Dev nD) (t : Fin cfg0.N) (h : t.val % 128 = 0) :
    (outsAt0 V c t.val t.isLt).2
      = k0_pay3 (iblk0 V c 0 t) (iblk0 V c 1 t) (iblk0 V c 2 t) (iblk0 V c 3 t) (k0_pay2 (F := Ideal)) := by
  rw [outsAt0_A V c t h]
  dsimp only
  exact out_A_5 ..

/-- A later point leaves its part over what the point before left. -/
theorem outs_later (c : Dev nD) (t : Fin cfg0.N) (h : ¬t.val % 128 = 0) :
    (outsAt0 V c t.val t.isLt).2 = k0_pay3 (iblk0 V c 0 t) (iblk0 V c 1 t) (iblk0 V c 2 t) (iblk0 V c 3 t)
      (outsAt0 V c (t.val - 1) (Nat.lt_of_le_of_lt (Nat.sub_le _ _) t.isLt)).2 := by
  rw [outsAt0_B V c t h]
  dsimp only
  exact out_B_5 ..

/-- What the sum's block holds at the last point: the sum over the whole table. -/
theorem outs_sum (c : Dev nD) (t : Fin cfg0.N) (h127 : t.val % 128 = 127) (i : S1x1.Idx) :
    (outsAt0 V c t.val t.isLt).2 i = deadSum V c := by
  have hN : cfg0.N = 128 := N_0
  have ht : t.val < 128 := t.isLt
  have hb : 128 * (t.val / 128) + t.val % 128 < cfg0.N := by have := t.isLt; omega
  have e := Pipeline.eq_accAt_of_mod (N := cfg0.N) (fun n h => (outsAt0 V c n h).2) 128
    (fun n h => k0_pay3 (iblk0 V c 0 ⟨n, h⟩) (iblk0 V c 1 ⟨n, h⟩) (iblk0 V c 2 ⟨n, h⟩) (iblk0 V c 3 ⟨n, h⟩) (k0_pay2 (F := Ideal)))
    (fun n h acc => k0_pay3 (iblk0 V c 0 ⟨n, h⟩) (iblk0 V c 1 ⟨n, h⟩) (iblk0 V c 2 ⟨n, h⟩) (iblk0 V c 3 ⟨n, h⟩) acc)
    (fun n h hn => outs_first V c ⟨n, h⟩ hn)
    (fun n h hn => outs_later V c ⟨n + 1, h⟩ hn)
    (by decide) t.val t.isLt hb
  refine (congrFun e i).trans ?_
  refine (Pipeline.accAt_add_apply _ _ (fun _ => (0 : EReal)) (fun n (_ : S1x1.Idx) => part V c n) (128 * (t.val / 128)) 127 ?_ ?_
    (t.val % 128) (by omega) hb i).trans ?_
  · intro h i
    refine (step_part V c ⟨_, h⟩ _ i).trans ?_
    show Ideal.ofBits .f32 0x00000000#32 + _ = _
    rw [Ideal.ofBits_zero_f32]
  · intro n h acc i _ _
    exact step_part V c ⟨n, h⟩ acc i
  · have h0 : t.val / 128 = 0 := by omega
    rw [zero_add, h127, h0]
    refine sum_grid 8 16 512 2048 (fun n f => entry V c n f * dead (steps V c (ix2 0 f)))
      (fun s r f => entry V c (rowOf (128 * 0 + s) r) (colOf (128 * 0 + s) f) * dead (steps V c (ix2 0 (colOf (128 * 0 + s) f))))
      fun j i r f hr hf => ?_
    have hj := j.isLt
    have hi := i.isLt
    have e1 : rowOf (128 * 0 + (j.val * 16 + i.val)) r = ⟨i.val * 512 + r.val, hr⟩ := Fin.ext (by unfold rowOf; dsimp only; omega)
    have e2 : colOf (128 * 0 + (j.val * 16 + i.val)) f = ⟨j.val * 2048 + f.val, hf⟩ := Fin.ext (by unfold colOf; dsimp only; omega)
    rw [e1, e2]

/-- What is written back is the block of the pre-activations. -/
theorem flushed_block (c : Dev nD) (t : Fin cfg0.N) :
    (dat0 V c).flushed 4 t = ((cfg0.win 4).blk t).view.read (Elt Ideal) (encoded V c) := by
  have ht : t.val < 128 := t.isLt
  show (cfg0.win 4).cut (grid0.coords t) ((dat0 V c).after 4 t) = _
  rw [after0_4, outs_block]
  funext j
  rw [View.read_apply]
  obtain ⟨r, f, rfl⟩ : ∃ (r : Fin 512) (f : Fin 2048), j = ix2 r f := ⟨j 0, j 1, eq_ix2 j⟩
  refine (block_entry V c t r f).trans ?_
  have e : ((cfg0.win 4).blk t).view.emb (ix2 r f) = (ix2 (rowOf t.val r) (colOf t.val f) : S8192x16384.Idx) := by
    funext a
    apply Fin.ext
    match a with
    | ⟨0, _⟩ => show win0_4.index t 0 * 512 + 1 * r.val = t.val % 16 * 512 + r.val; rw [(idx_4 t).1]; omega
    | ⟨1, _⟩ => show win0_4.index t 1 * 2048 + 1 * f.val = t.val / 16 % 8 * 2048 + f.val; rw [(idx_4 t).2]; omega
  exact (cast_same _ _ _ (encoded_at V c e)).symm

/-- An entry of the pre-activations lies in the block of its point. -/
theorem mem_block (t : Fin cfg0.N) (i : ((View.whole main_call0_v5_0).slice (win0_4.rect t)).ty.Idx)
    (h : (i 0 : Nat) / 512 = t.val % 16) (h' : (i 1 : Nat) / 2048 = t.val / 16) :
    i ∈ ((View.whole main_call0_v5_0).slice (win0_4.rect t)).set := by
  have h0 : (i 0 : Nat) < 8192 := (i 0).isLt
  have h1 : (i 1 : Nat) < 16384 := (i 1).isLt
  rw [View.set_slice_whole, Rect.mem_set_unit]
  intro a
  match a with
  | ⟨0, _⟩ => show win0_4.index t 0 * 512 ≤ (i 0 : Nat) ∧ (i 0 : Nat) < win0_4.index t 0 * 512 + 512
              rw [(idx_4 t).1]; omega
  | ⟨1, _⟩ => show win0_4.index t 1 * 2048 ≤ (i 1 : Nat) ∧ (i 1 : Nat) < win0_4.index t 1 * 2048 + 2048
              rw [(idx_4 t).2]; omega

/-- The final array of pre-activations. -/
theorem final_block (c : Dev nD) : (dat0 V c).arrAt 4 cfg0.N = encoded V c :=
  (dat0 V c).arrAt_eq_of_cover 4 (encoded V c) (fun t _ => flushed_block V c t) fun i => by
    have h0 : (i 0 : Nat) < 8192 := (i 0).isLt
    have h1 : (i 1 : Nat) < 16384 := (i 1).isLt
    let t : Fin cfg0.N := ⟨(i 1 : Nat) / 2048 * 16 + (i 0 : Nat) / 512, show (i 1 : Nat) / 2048 * 16 + (i 0 : Nat) / 512 < 128 by omega⟩
    have ht : t.val = (i 1 : Nat) / 2048 * 16 + (i 0 : Nat) / 512 := rfl
    exact ⟨t, flush0_4 t, mem_block t i (by omega) (by omega)⟩

/-- What is written back of the sum is the whole sum. -/
theorem flushed_sum (c : Dev nD) (t : Fin cfg0.N) (hf : (cfg0.win 5).flush t = true) :
    (dat0 V c).flushed 5 t = ((cfg0.win 5).blk t).view.read (Elt Ideal) (summed V c) := by
  show (cfg0.win 5).cut (grid0.coords t) ((dat0 V c).after 5 t) = _
  rw [after0_5]
  funext j
  rw [View.read_apply]
  exact (outs_sum V c t ((flush0_5 t).mp hf) j).trans (cast_same _ _ _ rfl).symm

/-- The one entry of the sum lies in every block of it. -/
theorem mem_one (t : Fin cfg0.N) (i : ((View.whole main_call0_v5_1).slice (win0_5.rect t)).ty.Idx) :
    i ∈ ((View.whole main_call0_v5_1).slice (win0_5.rect t)).set := by
  have h0 : (i 0 : Nat) < 1 := (i 0).isLt
  have h1 : (i 1 : Nat) < 1 := (i 1).isLt
  rw [View.set_slice_whole, Rect.mem_set_unit]
  intro a
  match a with
  | ⟨0, _⟩ => show win0_5.index t 0 * 1 ≤ (i 0 : Nat) ∧ (i 0 : Nat) < win0_5.index t 0 * 1 + 1
              rw [(idx_5 t).1]; omega
  | ⟨1, _⟩ => show win0_5.index t 1 * 1 ≤ (i 1 : Nat) ∧ (i 1 : Nat) < win0_5.index t 1 * 1 + 1
              rw [(idx_5 t).2]; omega

/-- The final sum. -/
theorem final_sum (c : Dev nD) : (dat0 V c).arrAt 5 cfg0.N = summed V c :=
  (dat0 V c).arrAt_eq_of_cover 5 (summed V c) (flushed_sum V c) fun i =>
    let t : Fin cfg0.N := ⟨127, show 127 < 128 by omega⟩
    ⟨t, (flush0_5 t).mpr rfl, mem_one t i⟩

end Cert.Encode

end
-- ==== Proof.Bisect.lean ====
/-
  Bisection over the extended reals, and what it finds in a row of numbers.

  A row `x` is searched for a threshold `θ` that at least 64 of its entries reach. One step halves an interval
  `[lo, hi]` of which `lo` is reached by at least 64 entries and `hi` is not, keeping that property. Started over real
  numbers and repeated `n` times, the interval is `2 ^ n` times narrower. If the 64th and the 65th largest entries are
  further apart than that, the entries at or above `lo` are exactly the 64 largest.
-/
module

public import Idealize.ShloMosaic.PureOps.Ideal

@[expose] public section

noncomputable section

namespace Cert.Select

/-- How many entries of the row `x` are at least `θ`. -/
def atLeast {n : ℕ} (x : Fin n → EReal) (θ : EReal) : ℕ := (Finset.univ.filter fun j => θ ≤ x j).card

/-- One step: the midpoint replaces the lower end where `c` holds of it, and the upper end where it does not. -/
def step (c : EReal → Prop) [DecidablePred c] (s : EReal × EReal) : EReal × EReal :=
  if c (((1 / 2 : ℝ) : EReal) * (s.1 + s.2)) then (((1 / 2 : ℝ) : EReal) * (s.1 + s.2), s.2)
  else (s.1, ((1 / 2 : ℝ) : EReal) * (s.1 + s.2))

/-- From real ends with `c` at the lower and not at the upper one, `n` steps lead to real ends inside them, with `c` at
    the lower and not at the upper one again, `2 ^ n` times nearer to each other. -/
theorem step_iterate (c : EReal → Prop) [DecidablePred c] : ∀ (n : ℕ) (l h : ℝ), l ≤ h → c l → ¬c h →
    ∃ l' h' : ℝ, (step c)^[n] ((l : EReal), (h : EReal)) = ((l' : EReal), (h' : EReal)) ∧ l ≤ l' ∧ l' ≤ h' ∧ h' ≤ h
      ∧ c l' ∧ ¬c h' ∧ h' - l' = (h - l) / 2 ^ n
  | 0, l, h, hlh, hl, hh => ⟨l, h, rfl, le_rfl, hlh, le_rfl, hl, hh, by simp⟩
  | n + 1, l, h, hlh, hl, hh => by
    have hmid : ((1 / 2 : ℝ) : EReal) * ((l : EReal) + (h : EReal)) = (((l + h) / 2 : ℝ) : EReal) := by
      rw [← EReal.coe_add, ← EReal.coe_mul]; congr 1; ring
    rw [Function.iterate_succ_apply]
    by_cases hc : c (((l + h) / 2 : ℝ) : EReal)
    · have e : step c ((l : EReal), (h : EReal)) = ((((l + h) / 2 : ℝ) : EReal), (h : EReal)) := by
        unfold step; simp only [hmid]; rw [if_pos hc]
      obtain ⟨l', h', he, h1, h2, h3, h4, h5, h6⟩ := step_iterate c n ((l + h) / 2) h (by linarith) hc hh
      refine ⟨l', h', by rw [e, he], by linarith, h2, h3, h4, h5, ?_⟩
      rw [h6, pow_succ]; field_simp; ring
    · have e : step c ((l : EReal), (h : EReal)) = ((l : EReal), (((l + h) / 2 : ℝ) : EReal)) := by
        unfold step; simp only [hmid]; rw [if_neg hc]
      obtain ⟨l', h', he, h1, h2, h3, h4, h5, h6⟩ := step_iterate c n l ((l + h) / 2) (by linarith) hl hc
      refine ⟨l', h', by rw [e, he], h1, h2, by linarith, h4, h5, ?_⟩
      rw [h6, pow_succ]; field_simp; ring

section Ranked

variable {n : ℕ} (x : Fin n → EReal) (σ : Fin n → Fin n) (hσ : Function.Bijective σ)
  (hx : ∀ i j : Fin n, i ≤ j → x (σ j) ≤ x (σ i))

include hσ hx

/-- With the row listed from its largest entry down, the entry at position `i` reaches every threshold that more than
    `i` entries reach. -/
theorem le_of_lt_atLeast (θ : EReal) (i : Fin n) (h : i.val < atLeast x θ) : θ ≤ x (σ i) := by
  by_contra hlt
  rw [not_le] at hlt
  have hsub : (Finset.univ.filter fun j => θ ≤ x j) ⊆ (Finset.Iio i).image σ := fun j hj => by
    obtain ⟨k, rfl⟩ := hσ.2 j
    refine Finset.mem_image.2 ⟨k, Finset.mem_Iio.2 ?_, rfl⟩
    by_contra hk
    rw [not_lt] at hk
    exact absurd ((Finset.mem_filter.1 hj).2.trans (hx i k hk)) (not_le.2 hlt)
  have h1 := Finset.card_le_card hsub
  have h2 := h1.trans Finset.card_image_le
  rw [Fin.card_Iio] at h2
  exact absurd h (not_lt.2 h2)

/-- The entry at position `i` misses every threshold that at most `i` entries reach. -/
theorem lt_of_atLeast_le (θ : EReal) (i : Fin n) (h : atLeast x θ ≤ i.val) : x (σ i) < θ := by
  by_contra hle
  rw [not_lt] at hle
  have hsub : (Finset.Iic i).image σ ⊆ Finset.univ.filter fun j => θ ≤ x j := fun j hj => by
    obtain ⟨k, hk, rfl⟩ := Finset.mem_image.1 hj
    exact Finset.mem_filter.2 ⟨Finset.mem_univ _, hle.trans (hx k i (Finset.mem_Iic.1 hk))⟩
  have h1 := Finset.card_le_card hsub
  rw [Finset.card_image_of_injective _ hσ.1, Fin.card_Iic] at h1
  unfold atLeast at h
  omega

end Ranked

/-- Where a bisection of a row with greatest entry `M` starts from above: `M` and a little more. -/
def above (c : ℝ) (M : EReal) : EReal := M + (max M (-M) * (c : EReal) + (c : EReal))

/-- `above` of a real number is the real expression. -/
theorem above_coe (c M : ℝ) : above c (M : EReal) = ((M + (|M| * c + c) : ℝ) : EReal) := by
  unfold above
  rw [← EReal.coe_neg, ← EReal.coe_strictMono.monotone.map_max, ← EReal.coe_mul, ← EReal.coe_add, ← EReal.coe_add, abs_eq_max_neg]

/-- A real number exceeds the infinite range of nothing: where the width of a row, measured from its least entry `B` to
    just above its greatest entry `A`, is less than a multiple of a difference of two of its entries, `A` and `B` are
    real numbers. -/
theorem real_of_width_lt (c : ℝ) (hc : 0 < c) (A B T U : EReal) (K : ℝ) (hK : 0 < K) (hTA : T ≤ A) (hBU : B ≤ U)
    (h : above c A - B < (T - U) * (K : EReal)) : ∃ a b : ℝ, A = (a : EReal) ∧ B = (b : EReal) := by
  have hbot : ∀ z : EReal, ¬z < (⊥ : EReal) * (K : EReal) := fun z hz => by
    rw [EReal.bot_mul_coe_of_pos hK] at hz
    exact not_lt_bot hz
  induction B with
  | bot =>
    exfalso
    induction A with
    | bot =>
      rw [le_bot_iff.1 hTA, EReal.bot_sub] at h
      exact hbot _ h
    | coe a =>
      rw [above_coe, EReal.coe_sub_bot] at h
      exact not_top_lt h
    | top =>
      unfold above at h
      rw [max_eq_left (by simp), EReal.top_mul_coe_of_pos hc, EReal.top_add_coe, EReal.top_add_top, EReal.top_sub_bot] at h
      exact not_top_lt h
  | top =>
    exfalso
    rw [top_le_iff.1 hBU, EReal.sub_top, EReal.sub_top] at h
    exact hbot _ h
  | coe b =>
    induction A with
    | bot =>
      exfalso
      rw [le_bot_iff.1 hTA, EReal.bot_sub] at h
      exact hbot _ h
    | coe a => exact ⟨a, b, rfl, rfl⟩
    | top =>
      exfalso
      unfold above at h
      rw [max_eq_left (by simp), EReal.top_mul_coe_of_pos hc, EReal.top_add_coe, EReal.top_add_top, EReal.top_sub_coe] at h
      exact not_top_lt h

/-- The threshold of a row `x` cut into groups with maxima `y`: 20 steps on the maxima from the least of them up, then
    18 steps on the entries from what those found up. -/
def threshold {n k : ℕ} (c : ℝ) (x : Fin n → EReal) (y : Fin k → EReal) : EReal :=
  ((step fun θ => 64 ≤ atLeast x θ)^[18]
    (((step fun θ => 64 ≤ atLeast y θ)^[20] (Finset.univ.inf y, above c (Finset.univ.sup y))).1,
      above c (Finset.univ.sup y))).1

/-- In a row whose 64th and 65th largest entries are further apart than its width divided by `2 ^ 18`, the entries at or
    above the threshold are the 64 largest. `σ` lists the row from its largest entry down. -/
theorem threshold_le_iff {n k : ℕ} (c : ℝ) (hc : 0 < c) (x : Fin n → EReal) (y : Fin k → EReal) (p : Fin k → Fin k → Fin n)
    (hk : 64 ≤ k) (hn : 64 < n) (hp : ∀ g l g' l', p g l = p g' l' → g = g') (honto : ∀ j, ∃ g l, p g l = j)
    (hy : ∀ g, y g = Finset.univ.sup fun l => x (p g l))
    (σ : Fin n → Fin n) (hσ : Function.Bijective σ) (hx : ∀ i j : Fin n, i ≤ j → x (σ j) ≤ x (σ i))
    (hgap : above c (x (σ ⟨0, by omega⟩)) - Finset.univ.inf x
      < (x (σ ⟨63, by omega⟩) - x (σ ⟨64, hn⟩)) * ((2 ^ 18 : ℝ) : EReal)) (i : Fin n) :
    threshold c x y ≤ x (σ i) ↔ i.val < 64 := by
  have hA : ∀ j, x j ≤ x (σ ⟨0, by omega⟩) := fun j => by
    obtain ⟨q, rfl⟩ := hσ.2 j
    exact hx _ _ (Fin.mk_le_of_le_val (Nat.zero_le _))
  have hB : ∀ j, Finset.univ.inf x ≤ x j := fun j => Finset.inf_le (Finset.mem_univ j)
  obtain ⟨a, b, ha, hb⟩ := real_of_width_lt c hc _ _ _ _ (2 ^ 18) (by positivity) (hA _) (hB _) hgap
  have hreal : ∀ j, ∃ r : ℝ, x j = (r : EReal) := fun j => by
    have h1 := hA j
    have h2 := hB j
    rw [ha] at h1
    rw [hb] at h2
    refine ⟨(x j).toReal, (EReal.coe_toReal ?_ ?_).symm⟩
    · exact fun h => by rw [h] at h1; exact absurd h1 (not_le.2 (EReal.coe_lt_top a))
    · exact fun h => by rw [h] at h2; exact absurd h2 (not_le.2 (EReal.bot_lt_coe b))
  have hsup : Finset.univ.sup y = (a : EReal) := by
    rw [← ha]
    refine le_antisymm (Finset.sup_le fun g _ => ?_) ?_
    · rw [hy]; exact Finset.sup_le fun l _ => hA _
    · obtain ⟨g, l, e⟩ := honto (σ ⟨0, by omega⟩)
      rw [← e]
      refine le_trans ?_ (Finset.le_sup (f := y) (Finset.mem_univ g))
      rw [hy]
      exact Finset.le_sup (f := fun l => x (p g l)) (Finset.mem_univ l)
  have hkpos : 0 < k := by omega
  have hlow : ∀ g, (b : EReal) ≤ y g := fun g => by
    rw [← hb, hy]
    exact (hB (p g ⟨0, hkpos⟩)).trans (Finset.le_sup (f := fun l => x (p g l)) (Finset.mem_univ _))
  have hhigh : ∀ g, y g ≤ (a : EReal) := fun g => by rw [← hsup]; exact Finset.le_sup (f := y) (Finset.mem_univ g)
  obtain ⟨d, hd⟩ : ∃ d : ℝ, Finset.univ.inf y = (d : EReal) := by
    have h1 : (b : EReal) ≤ Finset.univ.inf y := Finset.le_inf fun g _ => hlow g
    have h2 : Finset.univ.inf y ≤ (a : EReal) := (Finset.inf_le (Finset.mem_univ ⟨0, hkpos⟩)).trans (hhigh _)
    refine ⟨(Finset.univ.inf y).toReal, (EReal.coe_toReal ?_ ?_).symm⟩
    · exact fun h => by rw [h] at h2; exact absurd h2 (not_le.2 (EReal.coe_lt_top a))
    · exact fun h => by rw [h] at h1; exact absurd h1 (not_le.2 (EReal.bot_lt_coe b))
  have hbd : b ≤ d := EReal.coe_le_coe_iff.1 (hd ▸ Finset.le_inf fun g _ => hlow g)
  have hda : d ≤ a := EReal.coe_le_coe_iff.1 (hd ▸ (Finset.inf_le (Finset.mem_univ ⟨0, hkpos⟩)).trans (hhigh _))
  set t : ℝ := a + (|a| * c + c) with ht
  have hat : a < t := by have := mul_nonneg (abs_nonneg a) hc.le; linarith
  have hnone : ∀ {m : ℕ} (z : Fin m → EReal), (∀ j, z j ≤ (a : EReal)) → ¬64 ≤ atLeast z (t : EReal) := fun z hz h => by
    have h0 : atLeast z (t : EReal) = 0 := by
      unfold atLeast
      rw [Finset.card_eq_zero, Finset.filter_eq_empty_iff]
      exact fun j _ h => absurd (EReal.coe_le_coe_iff.1 (h.trans (hz j))) (not_le.2 hat)
    omega
  have hmaxima : ∀ θ, 64 ≤ atLeast y θ → (∀ g, ¬y g = ⊥) → 64 ≤ atLeast x θ := fun θ h hb' => by
    refine h.trans ?_
    have hw : ∀ g, ∃ l, θ ≤ y g → θ ≤ x (p g l) := fun g => by
      obtain ⟨l, -, hl⟩ := Finset.exists_mem_eq_sup (Finset.univ : Finset (Fin k)) ⟨⟨0, hkpos⟩, Finset.mem_univ _⟩ fun l => x (p g l)
      exact ⟨l, fun h => by rw [hy, hl] at h; exact h⟩
    choose w hw using hw
    unfold atLeast
    refine Finset.card_le_card_of_injOn (fun g => p g (w g)) (fun g hg => ?_) fun g _ g' _ e => hp _ _ _ _ e
    have hg' := (Finset.mem_filter.1 hg).2
    exact Finset.mem_coe.2 (Finset.mem_filter.2 ⟨Finset.mem_univ _, hw g hg'⟩)
  have hnb : ∀ g, ¬y g = ⊥ := fun g h => by
    have := hlow g
    rw [h] at this
    exact absurd this (not_le.2 (EReal.bot_lt_coe b))
  have hall : 64 ≤ atLeast y (d : EReal) := by
    have : (Finset.univ.filter fun g => (d : EReal) ≤ y g) = Finset.univ :=
      Finset.filter_true_of_mem fun g _ => hd ▸ Finset.inf_le (Finset.mem_univ g)
    unfold atLeast
    rw [this, Finset.card_univ, Fintype.card_fin]
    exact hk
  obtain ⟨l₁, h₁, e₁, g1, g2, g3, g4, -, -⟩ :=
    step_iterate (fun θ => 64 ≤ atLeast y θ) 20 d t (by linarith) hall (hnone y hhigh)
  obtain ⟨l₂, h₂, e₂, q1, q2, q3, q4, q5, q6⟩ :=
    step_iterate (fun θ => 64 ≤ atLeast x θ) 18 l₁ t (by linarith) (hmaxima _ g4 hnb) (hnone x fun j => ha ▸ hA j)
  have hthr : threshold c x y = (l₂ : EReal) := by
    unfold threshold
    rw [hsup, hd, above_coe, ← ht, e₁]
    dsimp only
    rw [e₂]
  rw [hthr]
  obtain ⟨T, hT⟩ := hreal (σ ⟨63, by omega⟩)
  obtain ⟨U, hU⟩ := hreal (σ ⟨64, hn⟩)
  have hT1 : l₂ ≤ T := EReal.coe_le_coe_iff.1 (hT ▸ le_of_lt_atLeast x σ hσ hx _ ⟨63, by omega⟩ (by dsimp only at q4 ⊢; omega))
  have hT2 : T < h₂ := EReal.coe_lt_coe_iff.1 (hT ▸ lt_of_atLeast_le x σ hσ hx _ ⟨63, by omega⟩ (by dsimp only at q5 ⊢; omega))
  have hU1 : U < l₂ := by
    rw [ha, hb, hT, hU, above_coe, ← ht, ← EReal.coe_sub, ← EReal.coe_sub, ← EReal.coe_mul, EReal.coe_lt_coe_iff] at hgap
    have hpow : (0 : ℝ) < 2 ^ 18 := by positivity
    have hw : (h₂ - l₂) * 2 ^ 18 ≤ t - b := by
      rw [q6, div_mul_cancel₀ _ hpow.ne']; linarith
    have : (h₂ - l₂) < T - U := lt_of_mul_lt_mul_right (hw.trans_lt hgap) hpow.le
    linarith
  constructor
  · intro h
    by_contra hi
    have : x (σ i) ≤ x (σ ⟨64, hn⟩) := hx _ _ (Fin.mk_le_of_le_val (by omega))
    rw [hU] at this
    exact absurd (EReal.coe_le_coe_iff.1 (h.trans this)) (not_le.2 hU1)
  · intro hi
    have : x (σ ⟨63, by omega⟩) ≤ x (σ i) := hx _ _ (Fin.le_def.2 (by dsimp only; omega))
    rw [hT] at this
    exact (EReal.coe_le_coe_iff.2 hT1).trans this

end Cert.Select

end
-- ==== Proof.Order.lean ====
/-
  The stable top-k of a row, read entry by entry: one order per row lists it from its largest entry down, and the `k`
  largest entries with their positions are that order's first `k`, for every `k`. Then the scatter of 64 entries per
  row into a table of zeros.
-/
module

public import Idealize.ShloMosaic.PureOps.Ideal.Laws
public import Idealize.ShloMosaic.Lib.SortFacts
public import Idealize.ShloMosaic.Lib.ValueIdx

@[expose] public section

set_option maxRecDepth 16384

noncomputable section

namespace Cert.Select

open Idealize.ShloMosaic Idealize.ShloMosaic.ValueIdx

/-- The shape of the table of pre-activations. -/
abbrev SX : Shape := ⟨3, ![2, 4096, 16384]⟩

/-- Whether the entry `k` of a row is greater than the entry `k'`. -/
def greater (x : Fin 16384 → EReal) (k k' : Fin 16384) : Bool := FloatOps.cmpfTotal (F := Ideal) (φ := .f32) .gt (x k) (x k') == 1#1

/-- The order by which the rows are sorted, as an inequality. -/
theorem greater_iff (x : Fin 16384 → EReal) (k k' : Fin 16384) : greater x k k' = true ↔ x k' < x k := by
  unfold greater
  rw [Ideal.cmpfTotal_def]
  show (BitVec.ofBool (decide (x k' < x k)) == 1#1) = true ↔ _
  by_cases h : x k' < x k <;> simp [h]

/-- An entry is not greater than another when it is at most that other. -/
theorem greater_false_iff (x : Fin 16384 → EReal) (k k' : Fin 16384) : greater x k k' = false ↔ x k ≤ x k' := by
  rw [← not_lt, ← greater_iff, Bool.not_eq_true]

/-- The order of a row: its entries' positions from the largest entry down, equal entries by position. -/
def order (x : Fin 16384 → EReal) : Fin 16384 → Fin 16384 := sortedFrom (greater x)

/-- The sorted positions are all positions, each once. -/
theorem order_bijective (x : Fin 16384 → EReal) : Function.Bijective (order x) :=
  ⟨sortedFrom_injective _, sortedFrom_surjective _⟩

/-- Along its order a row does not increase. -/
theorem order_antitone (x : Fin 16384 → EReal) (i j : Fin 16384) (h : i ≤ j) : x (order x j) ≤ x (order x i) := by
  rcases h.eq_or_lt with rfl | h
  · exact le_rfl
  · refine (greater_false_iff x _ _).1 (sortedFrom_noInversion (greater x) (greater x) ?_ (fun _ _ h => h) ?_ i j h)
    · exact fun a b h => (greater_false_iff x _ _).2 ((greater_iff x _ _).1 h).le
    · exact fun a b c h h' => (greater_false_iff x _ _).2
        (((greater_false_iff x _ _).1 h).trans ((greater_false_iff x _ _).1 h'))

section General

variable {s t : Shape} {α β : Type}

/-- The permutation by which a sort along axis `a`, greater elements first under `gt`, reads the fiber through `i`. -/
def source (gt : α → α → BitVec 1) (a : Fin s.rank) (x : s.Idx → α) (i : s.Idx) : Fin (s.size a) :=
  sortedFrom (fun k k' => gt (x (i.along a k)) (x (i.along a k')) == 1#1) (i a)

/-- A stable sort of two tables by the first one's elements reads both through that permutation. -/
theorem sort2_read (gt : α → α → BitVec 1) {d : ℕ} (hd : d < s.rank) (x : s.Idx → α) (y : s.Idx → β) :
    Host.sort2 s d (fun l r => gt l.1 r.1) x y
      = (fun i => x (i.along ⟨d, hd⟩ (source gt ⟨d, hd⟩ x i)), fun i => y (i.along ⟨d, hd⟩ (source gt ⟨d, hd⟩ x i))) := by
  unfold Host.sort2
  exact dif_pos hd

/-- The index of the operand that an index of the slice at offset zero reads. -/
def widen (h : s.Slices (fun _ => 0) t) (j : t.Idx) : s.Idx :=
  fun a => ⟨0 + (j (a.cast h.1.symm)).val, Nat.lt_of_lt_of_le (Nat.add_lt_add_left (j _).isLt _) (h.2 a)⟩

/-- The greatest elements along axis `d` and their positions, read through the sort's permutation. -/
theorem topK_read (gt : α → α → BitVec 1) {d : ℕ} (hd : d < s.rank) (x : s.Idx → α) (h : s.Slices (fun _ => 0) t) :
    Host.topK t d gt x h
      = (fun j => x ((widen h j).along ⟨d, hd⟩ (source gt ⟨d, hd⟩ x (widen h j))),
         fun j => iotaInDim s 32 ⟨d, hd⟩ ((widen h j).along ⟨d, hd⟩ (source gt ⟨d, hd⟩ x (widen h j)))) := by
  unfold Host.topK
  simp only [dif_pos hd]
  rw [sort2_read gt hd]
  rfl

end General

/-- Moving a position along the last axis changes its last coordinate alone. -/
theorem along_eq (i : SX.Idx) (c : Fin 16384) : i.along (2 : Fin 3) c = ix3 (i 0) (i 1) c := by
  funext a; match a with | ⟨0, _⟩ => rfl | ⟨1, _⟩ => rfl | ⟨2, _⟩ => rfl

/-- A position of a slice that starts at the first column is the same position of the whole. -/
theorem widen_eq {k : ℕ} (hk : k ≤ 16384) (h : SX.Slices (fun _ => 0) ⟨3, ![2, 4096, k]⟩) (b : Fin 2) (r : Fin 4096) (j : Fin k) :
    widen h (ix3 b r j) = ix3 b r (j.castLE hk) := by
  funext a
  match a with
  | ⟨0, _⟩ => exact Fin.ext (Nat.zero_add _)
  | ⟨1, _⟩ => exact Fin.ext (Nat.zero_add _)
  | ⟨2, _⟩ => exact Fin.ext (Nat.zero_add _)

/-- Where a row's sort by its own entries reads at position `j`: at the order's position `j`. -/
theorem source_eq (X : FVec Ideal SX .f32) (b : Fin 2) (r : Fin 4096) (j : Fin 16384) :
    (ix3 b r j : SX.Idx).along (2 : Fin 3) (source (FloatOps.cmpfTotal (F := Ideal) (φ := .f32) .gt) (2 : Fin 3) X (ix3 b r j))
      = ix3 b r (order (fun c => X (ix3 b r c)) j) :=
  (along_eq _ _).trans (congrArg (fun f => (ix3 b r (sortedFrom f j) : SX.Idx))
    (funext fun k => funext fun k' => congrArg₂ (fun p q : SX.Idx => FloatOps.cmpfTotal (F := Ideal) (φ := .f32) .gt (X p) (X q) == 1#1)
      (along_eq (ix3 b r j) k) (along_eq (ix3 b r j) k')))

variable {k : ℕ} (hk : k ≤ 16384) (X : FVec Ideal SX .f32) (h : SX.Slices (fun _ => 0) ⟨3, ![2, 4096, k]⟩)
  (b : Fin 2) (r : Fin 4096) (j : Fin k)

/-- The `j`-th of the `k` largest entries of row `r` of batch `b` is the row's entry at the order's position `j`. -/
theorem topK_value : (Host.topK ⟨3, ![2, 4096, k]⟩ 2 (FloatOps.cmpfTotal .gt) X h).1 (ix3 b r j)
    = X (ix3 b r (order (fun c => X (ix3 b r c)) (j.castLE hk))) := by
  rw [topK_read _ (show 2 < SX.rank from by decide)]
  show X ((widen h (ix3 b r j)).along (2 : Fin 3) (source _ (2 : Fin 3) X (widen h (ix3 b r j)))) = _
  rw [widen_eq hk]
  exact congrArg X (source_eq X b r _)

/-- Its position in the row is the order's position `j`, as a 32-bit word. -/
theorem topK_index : (Host.topK ⟨3, ![2, 4096, k]⟩ 2 (FloatOps.cmpfTotal .gt) X h).2 (ix3 b r j)
    = BitVec.ofNat 32 (order (fun c => X (ix3 b r c)) (j.castLE hk)).val := by
  rw [topK_read _ (show 2 < SX.rank from by decide)]
  show iotaInDim SX 32 (2 : Fin 3) ((widen h (ix3 b r j)).along (2 : Fin 3) (source _ (2 : Fin 3) X (widen h (ix3 b r j)))) = _
  rw [widen_eq hk]
  refine (congrArg (iotaInDim SX 32 (2 : Fin 3)) (source_eq X b r (j.castLE hk))).trans ?_
  rfl

end Cert.Select

end
-- ==== Proof.Reference.lean ====
/-
  The reference, read entry by entry. A row of pre-activations is `pre`; the table the reference decodes holds, of each
  row, the 64 largest entries at their places and zeros elsewhere.
-/
module

public import proofs.«01_k».proof.Proof.Order
public import proofs.«01_k».proof.Proof.Gen.ReferenceIdeal.Read
public import Idealize.ShloMosaic.Lib.Routing.OpsSet

@[expose] public section

set_option maxRecDepth 16384

noncomputable section

namespace Cert.Reference

open Idealize.ShloMosaic Idealize.ShloMosaic.ValueIdx Cert.ReferenceIdeal Cert.ReferenceIdeal.Gen Cert.ReferenceIdeal.Read Cert.Select

variable (x0 : (⟨S2x4096x2048, .f32⟩ : BufTy).Contents (Elt Ideal)) (x1 : (⟨S16384x2048, .f32⟩ : BufTy).Contents (Elt Ideal))
  (x2 : (⟨S16384, .f32⟩ : BufTy).Contents (Elt Ideal)) (x3 : (⟨S2048x16384, .f32⟩ : BufTy).Contents (Elt Ideal))
  (x4 : (⟨S16384, .i32⟩ : BufTy).Contents (Elt Ideal))

/-- The batch of row `n` of the flattened input. -/
def batch (n : Fin 8192) : Fin 2 := ⟨n.val / 4096, by omega⟩
/-- The row within its batch. -/
def place (n : Fin 8192) : Fin 4096 := ⟨n.val % 4096, by omega⟩

/-- The pre-activation of feature `c` at row `n`. -/
def pre (n : Fin 8192) (c : Fin 16384) : EReal :=
  (∑ k : Fin 2048, x0 (ix3 (batch n) (place n) k) * x1 (ix2 c k)) + x2 (ix1 c)

/-- The reference's pre-activation. -/
theorem v3_apply (n : Fin 8192) (c : Fin 16384) :
    val_main_v3 (F := Ideal) x0 x1 x2 (ix3 (batch n) (place n) c) = pre x0 x1 x2 n c := by
  rw [val_main_v3_apply, val_main_v0_apply, val_main_v2_apply, val_main_v1_apply, Ideal.addf_def]
  unfold pre
  have e0 : ∀ k, lidx_main_v0 (ix3 (batch n) (place n) c) k = ix3 (batch n) (place n) k := fun k => by
    funext a; match a with | ⟨0, _⟩ => rfl | ⟨1, _⟩ => rfl | ⟨2, _⟩ => rfl
  have e1 : ∀ k, ridx_main_v0 (ix3 (batch n) (place n) c) k = ix2 c k := fun k => by
    funext a; match a with | ⟨0, _⟩ => rfl | ⟨1, _⟩ => rfl
  have e2 : idx_main_v1 (idx_main_v2 (ix3 (batch n) (place n) c)) = ix1 c := by
    funext a; match a with | ⟨0, _⟩ => rfl
  simp only [e0, e1, e2]

/-- The row of pre-activations as the printed operations read it. -/
theorem row_eq (n : Fin 8192) :
    (fun c => val_main_v3 (F := Ideal) x0 x1 x2 (ix3 (batch n) (place n) c)) = pre x0 x1 x2 n :=
  funext fun c => v3_apply x0 x1 x2 n c

/-- The flattened table of positions, read back by batch and place. -/
theorem idx_v4 (n : Fin 8192) (k : Fin 64) : idx_main_v4 (ix2 n k) = ix3 (batch n) (place n) k := by
  have hk := k.isLt
  funext a
  match a with
  | ⟨0, _⟩ => exact Fin.ext (show (n.val * 64 + k.val) / 262144 = n.val / 4096 by omega)
  | ⟨1, _⟩ => exact Fin.ext (show (n.val * 64 + k.val) / 64 % 4096 = n.val % 4096 by omega)
  | ⟨2, _⟩ => exact Fin.ext (show (n.val * 64 + k.val) % 64 = k.val by omega)

/-- The position of the `k`-th largest entry of row `n`, as a word. -/
theorem v4_apply (n : Fin 8192) (k : Fin 64) :
    val_main_v4 (F := Ideal) x0 x1 x2 (ix2 n k) = BitVec.ofNat 32 (order (pre x0 x1 x2 n) (k.castLE (by decide))).val := by
  rw [val_main_v4_apply, idx_v4]
  unfold val_main_indices
  rw [← row_eq]
  exact topK_index (by decide) (val_main_v3 (F := Ideal) x0 x1 x2) _ _ _ k

/-- The `k`-th largest entry of row `n`. -/
theorem v5_apply (n : Fin 8192) (k : Fin 64) :
    val_main_v5 (F := Ideal) x0 x1 x2 (ix2 n k) = pre x0 x1 x2 n (order (pre x0 x1 x2 n) (k.castLE (by decide))) := by
  rw [val_main_v5_apply, show idx_main_v5 (ix2 n k) = _ from idx_v4 n k, ← row_eq]
  unfold val_main_values
  exact topK_value (by decide) (val_main_v3 (F := Ideal) x0 x1 x2) _ _ _ k

/-- The scatter's first index word of row `n` is `n`. -/
theorem v22_row (n : Fin 8192) (k : Fin 64) : val_main_v22 (F := Ideal) x0 x1 x2 (ix3 n k (0 : Fin 2)) = BitVec.ofNat 32 n.val := by
  unfold val_main_v22
  refine (concatenate_pair_apply_left (t := S8192x64x2) (s₁ := S8192x64x1) (s₂ := S8192x64x1) (2 : Fin 3) _ _ _ (ix3 n k (0 : Fin 2)) rfl (ix3 n k (0 : Fin 1)) fun b =>
    match b with | ⟨0, _⟩ => rfl | ⟨1, _⟩ => rfl | ⟨2, _⟩ => rfl).trans ?_
  rw [val_main_v20_apply, val_main_v19_apply, val_main_v13_apply, val_main_v10_apply, val_main_v9_apply, val_main_c_apply,
    val_main_v7_apply, val_main_v6_apply]
  refine Routing.wrap_of_lt _ _ ?_
  rw [BitVec.toNat_ofNat, Nat.mod_eq_of_lt]
  · exact lt_trans n.isLt (by decide)
  · exact lt_trans n.isLt (by decide)

/-- The second is the `k`-th largest entry's position. -/
theorem v22_col (n : Fin 8192) (k : Fin 64) : val_main_v22 (F := Ideal) x0 x1 x2 (ix3 n k (1 : Fin 2))
    = BitVec.ofNat 32 (order (pre x0 x1 x2 n) (k.castLE (by decide))).val := by
  unfold val_main_v22
  refine (concatenate_pair_apply_right (t := S8192x64x2) (s₁ := S8192x64x1) (s₂ := S8192x64x1) (2 : Fin 3) _ _ _ (ix3 n k (1 : Fin 2)) rfl rfl (ix3 n k (0 : Fin 1)) (fun b hb =>
    match b, hb with | ⟨0, _⟩, _ => rfl | ⟨1, _⟩, _ => rfl | ⟨2, _⟩, h => absurd rfl h) rfl).trans ?_
  rw [val_main_v21_apply, val_main_v18_apply, val_main_v15_apply, val_main_v14_apply, val_main_c_1_apply]
  have e : idx_main_v21 (ix3 n k (0 : Fin 1)) = ix2 n k := by funext a; match a with | ⟨0, _⟩ => rfl | ⟨1, _⟩ => rfl
  rw [e, v4_apply]
  have ho := (order (pre x0 x1 x2 n) (k.castLE (by decide))).isLt
  refine Routing.wrap_of_lt _ _ ?_
  rw [BitVec.toNat_ofNat, Nat.mod_eq_of_lt]
  · exact lt_trans ho (by decide)
  · exact lt_trans ho (by decide)

/-- The word of a column number is that number. -/
theorem toInt_small (v : ℕ) (h : v < 16384) : (BitVec.ofNat 32 v).toInt = (v : Int) := by
  have e : (BitVec.ofNat 32 v).toNat = v := by rw [BitVec.toNat_ofNat, Nat.mod_eq_of_lt (by omega)]
  rw [BitVec.toInt_eq_toNat_of_lt (by rw [e]; omega), e]

/-- An entry of the scattered table: at the position order `i` of row `n`, the row's entry if `i` is among the first 64,
    else zero. -/
theorem v23_apply (n : Fin 8192) (i : Fin 16384) :
    val_main_v23 (F := Ideal) x0 x1 x2 (ix2 n (order (pre x0 x1 x2 n) i))
      = if i.val < 64 then pre x0 x1 x2 n (order (pre x0 x1 x2 n) i) else 0 := by
  have hl : ∀ (n' : Fin 8192) (k : Fin 64),
      scatter_S8192x16384_S8192x64x2_S8192x64_n_01_01_2.resultIdx? (ix2 n' k) (val_main_v22 (F := Ideal) x0 x1 x2)
          = some (ix2 n (order (pre x0 x1 x2 n) i)) ↔ n' = n ∧ k.val = i.val := fun n' k => by
    rw [Routing.scatter_lands2 (R := 8192) (C := 16384) (A := 8192) (B := 64) scatter_S8192x16384_S8192x64x2_S8192x64_n_01_01_2 rfl rfl rfl]
    rw [v22_row, v22_col, toInt_small _ (lt_trans n'.isLt (by decide)), toInt_small _ (Fin.isLt _), Nat.cast_inj, Nat.cast_inj]
    constructor
    · rintro ⟨h1, h2⟩
      have e : n' = n := Fin.ext h1
      subst e
      exact ⟨rfl, congrArg Fin.val ((order_bijective _).1 (Fin.ext h2))⟩
    · rintro ⟨rfl, h⟩
      exact ⟨rfl, congrArg (fun q => (order (pre x0 x1 x2 n') q).val) (Fin.ext h)⟩
  unfold val_main_v23
  by_cases hi : i.val < 64
  · rw [if_pos hi]
    refine Routing.scatter_set_hit _ _ _ _ _ _ (fun k hk => ?_) (ix2 n ⟨i.val, hi⟩) ((hl n ⟨i.val, hi⟩).2 ⟨rfl, rfl⟩)
    obtain ⟨n', k', rfl⟩ : ∃ (n' : Fin 8192) (k' : Fin 64), k = ix2 n' k' := ⟨k 0, k 1, eq_ix2 k⟩
    obtain ⟨rfl, h⟩ := (hl n' k').1 hk
    rw [v5_apply]
    exact congrArg (fun q => pre x0 x1 x2 n' (order (pre x0 x1 x2 n') q)) (Fin.ext h)
  · rw [if_neg hi]
    refine (Routing.scatter_set_miss _ _ _ _ _ fun k hk => ?_).trans ?_
    · obtain ⟨n', k', rfl⟩ : ∃ (n' : Fin 8192) (k' : Fin 64), k = ix2 n' k' := ⟨k 0, k 1, eq_ix2 k⟩
      have := ((hl n' k').1 hk).2
      exact hi (this ▸ k'.isLt)
    · rw [val_main_v8_apply, val_main_cst_apply]
      exact Ideal.ofBits_zero_f32

/-- Row `n` of the decoded result: the table's row times the embedding. -/
theorem v26_apply (b : Fin 2) (r : Fin 4096) (d : Fin 2048) :
    val_main_v26 (F := Ideal) x0 x1 x2 x3 (ix3 b r d)
      = ∑ c : Fin 16384, val_main_v23 (F := Ideal) x0 x1 x2 (ix2 ⟨b.val * 4096 + r.val, by omega⟩ c) * x3 (ix2 d c) := by
  rw [val_main_v26_apply, val_main_v25_apply]
  refine Finset.sum_congr rfl fun c _ => ?_
  rw [val_main_v24_apply]
  have hd := d.isLt
  have e0 : lidx_main_v25 (idx_main_v26 (ix3 b r d)) c = ix2 ⟨b.val * 4096 + r.val, by omega⟩ c := by
    funext a
    match a with
    | ⟨0, _⟩ => exact Fin.ext (show ((b.val * 4096 + r.val) * 2048 + d.val) / 2048 = b.val * 4096 + r.val by omega)
    | ⟨1, _⟩ => rfl
  have e1 : idx_main_v24 (ridx_main_v25 (idx_main_v26 (ix3 b r d)) c) = ix2 d c := by
    funext a
    match a with
    | ⟨0, _⟩ => exact Fin.ext (show ((b.val * 4096 + r.val) * 2048 + d.val) % 2048 = d.val by omega)
    | ⟨1, _⟩ => rfl
  rw [e0, e1]

end Cert.Reference

end
-- ==== Proof.Mask.lean ====
/-
  The mask, read: where it holds at a row, the distance from the top of the bisected interval to the row's least entry
  is less than 2^18 times the distance between the row's 64th and 65th largest entries.
-/
module

public import proofs.«01_k».proof.On_resolved
public import proofs.«01_k».proof.Proof.Gen.On_resolved
public import proofs.«01_k».proof.Proof.Bisect
public import proofs.«01_k».proof.Proof.Reference
public import Idealize.ShloMosaic.Lib.Pipeline.Value

@[expose] public section

set_option maxRecDepth 16384

noncomputable section

namespace Cert.Mask

open Idealize.ShloMosaic Idealize.ShloMosaic.ValueIdx Cert.Select Cert.Reference

/-- The real number the margin's constant denotes (about a thousandth). -/
def eps : ℝ := 8589935 / 2 ^ 33

/-- The literal 0.001 is positive. -/
theorem eps_pos : 0 < eps := by unfold eps; positivity

/-- The word of the literal 0.001. -/
theorem ofBits_eps : Ideal.ofBits .f32 0x3A83126F#32 = ((eps : ℝ) : EReal) := by
  simp [Ideal.ofBits, Ideal.ieee, -EReal.coe_mul, eps]; norm_num

/-- The word of plus infinity. -/
theorem ofBits_top : Ideal.ofBits .f32 0x7F800000#32 = ⊤ := by simp [Ideal.ofBits, Ideal.ieee]
/-- The word of minus infinity. -/
theorem ofBits_bot : Ideal.ofBits .f32 0xFF800000#32 = ⊥ := by simp [Ideal.ofBits, Ideal.ieee]

/-- The word of 2 to the 18. -/
theorem ofBits_width : Ideal.ofBits .f32 0x48800000#32 = ((2 ^ 18 : ℝ) : EReal) := by
  rw [show ((2 : ℝ) ^ 18) = 262144 by norm_num]
  simp [Ideal.ofBits, Ideal.ieee, -EReal.coe_mul]; norm_num

/-- Folding the minimum from +∞ over a finite set is its infimum. -/
theorem fold_min {ι : Type} (S : Finset ι) (f : ι → EReal) : S.fold min (⊤ : EReal) f = S.inf f := rfl
/-- Folding the maximum from −∞ over a finite set is its supremum. -/
theorem fold_max {ι : Type} (S : Finset ι) (f : ι → EReal) : S.fold max (⊥ : EReal) f = S.sup f := rfl

/-- A row's minimum, as the host takes it. -/
theorem hostMin_row (X : FVec Ideal SX .f32) (v : FVec Ideal ⟨0, ![]⟩ .f32) (hv : ∀ i, v i = ⊤)
    (h : SX.ReducesTo [2] ⟨2, ![2, 4096]⟩) (hu : 0 < (⟨0, ![]⟩ : Shape).numel) (b : Fin 2) (r : Fin 4096) :
    Host.reduce FloatOps.minimumf X v h hu (ix2 b r) = Finset.univ.inf fun c : Fin 16384 => X (ix3 b r c) := by
  have hr : SX.Reduces [2] ⟨2, ![2, 4096]⟩ := ⟨h.1, Nat.one_pos.trans_le (by decide), h.2⟩
  rw [Host.reduce_eq_fold_single FloatOps.minimumf X v h hr hu, hv]
  refine Eq.trans ?_ (fold_min _ _)
  refine congrArg (fun f => Finset.fold min (⊤ : EReal) f (Finset.univ : Finset (Fin 16384))) ?_
  funext c
  refine congrArg X ?_
  funext a; apply Fin.ext
  match a with
  | ⟨0, _⟩ => rfl
  | ⟨1, _⟩ => rfl
  | ⟨2, _⟩ => rfl

/-- One column of the 65 largest entries, as a matrix. -/
theorem column_read (T : FVec Ideal ⟨3, ![2, 4096, 65]⟩ .f32) (k : ℕ) (hk : k < 65)
    (hs : (⟨3, ![2, 4096, 65]⟩ : Shape).Slices ![0, 0, k] ⟨3, ![2, 4096, 1]⟩)
    (hc : (⟨3, ![2, 4096, 1]⟩ : Shape).ShapeCasts ⟨2, ![2, 4096]⟩) (b : Fin 2) (r : Fin 4096) :
    shapeCast ⟨2, ![2, 4096]⟩ (extractStridedSlice ⟨3, ![2, 4096, 1]⟩ ![0, 0, k] T hs) hc (ix2 b r) = T (ix3 b r ⟨k, hk⟩) := by
  rw [shapeCast_apply _ _ (ix2 b r) (ix3 b r (0 : Fin 1)) (by
    rw [Shape.rowMajor_val_three, Shape.rowMajor_val_two]
    show (b.val * 4096 + r.val) * 1 + 0 = b.val * 4096 + r.val; omega)]
  refine congrArg T ?_
  funext a; apply Fin.ext
  match a with
  | ⟨0, _⟩ => exact Nat.zero_add _
  | ⟨1, _⟩ => exact Nat.zero_add _
  | ⟨2, _⟩ => exact Nat.add_zero _

/-- The `k`-th largest entry of each row (from 0), as the host slices it out of the 65 largest. -/
def column (X : FVec Ideal SX .f32) (k : ℕ) (hT : SX.Slices (fun _ => 0) ⟨3, ![2, 4096, 65]⟩)
    (hs : (⟨3, ![2, 4096, 65]⟩ : Shape).Slices ![0, 0, k] ⟨3, ![2, 4096, 1]⟩)
    (hc : (⟨3, ![2, 4096, 1]⟩ : Shape).ShapeCasts ⟨2, ![2, 4096]⟩) (i : (⟨2, ![2, 4096]⟩ : Shape).Idx) : EReal :=
  shapeCast ⟨2, ![2, 4096]⟩ (extractStridedSlice ⟨3, ![2, 4096, 1]⟩ ![0, 0, k]
    (Host.topK ⟨3, ![2, 4096, 65]⟩ 2 (FloatOps.cmpfTotal .gt) X hT).1 hs) hc i

/-- A column cut out of the sorted rows holds the entry at that rank of the row. -/
theorem column_value (X : FVec Ideal SX .f32) (k : ℕ) (hk : k < 65) (hT) (hs) (hc) (b : Fin 2) (r : Fin 4096) (y : Fin 16384 → EReal)
    (hy : (fun c => X (ix3 b r c)) = y) : column X k hT hs hc (ix2 b r) = y (order y ⟨k, by omega⟩) := by
  subst hy
  exact (column_read _ k hk hs hc b r).trans (topK_value (by omega) X hT b r ⟨k, hk⟩)

/-- The least entry of each row, as the host takes it. -/
def least (X : FVec Ideal SX .f32) (h : SX.ReducesTo [2] ⟨2, ![2, 4096]⟩) (hu : 0 < (⟨0, ![]⟩ : Shape).numel) (i : (⟨2, ![2, 4096]⟩ : Shape).Idx) : EReal :=
  Host.reduce (FloatOps.minimumf (F := Ideal) (φ := .f32)) X (constant (F := Ideal) ⟨0, ![]⟩ .f32 0x7F800000#32) h hu i

/-- The minimum over a row is the row's infimum. -/
theorem least_value (X : FVec Ideal SX .f32) (h) (hu) (b : Fin 2) (r : Fin 4096) (y : Fin 16384 → EReal)
    (hy : (fun c => X (ix3 b r c)) = y) : least X h hu (ix2 b r) = Finset.univ.inf y := by
  subst hy
  exact hostMin_row X _ (fun _ => ofBits_top) h hu b r

/-- A set bit of the comparison is the strict inequality. -/
theorem lt_of_cmp {a b : EReal} (h : Ideal.cmp .olt a b = 1#1) : a < b := by
  by_contra hn
  simp [Ideal.cmp, hn] at h

/-- The comparison the mask makes at each row. -/
def verdict (X : FVec Ideal SX .f32) (hT : SX.Slices (fun _ => 0) ⟨3, ![2, 4096, 65]⟩)
    (hc : (⟨3, ![2, 4096, 1]⟩ : Shape).ShapeCasts ⟨2, ![2, 4096]⟩)
    (hs0 : (⟨3, ![2, 4096, 65]⟩ : Shape).Slices ![0, 0, 0] ⟨3, ![2, 4096, 1]⟩)
    (hs63 : (⟨3, ![2, 4096, 65]⟩ : Shape).Slices ![0, 0, 63] ⟨3, ![2, 4096, 1]⟩)
    (hs64 : (⟨3, ![2, 4096, 65]⟩ : Shape).Slices ![0, 0, 64] ⟨3, ![2, 4096, 1]⟩)
    (h : SX.ReducesTo [2] ⟨2, ![2, 4096]⟩) (hu : 0 < (⟨0, ![]⟩ : Shape).numel) : IVec ⟨2, ![2, 4096]⟩ 1 := fun i =>
  Ideal.cmp .olt (column X 0 hT hs0 hc i + (max (column X 0 hT hs0 hc i) (-column X 0 hT hs0 hc i)
      * Ideal.ofBits .f32 0x3A83126F#32 + Ideal.ofBits .f32 0x3A83126F#32) - least X h hu i)
    ((column X 63 hT hs63 hc i - column X 64 hT hs64 hc i) * Ideal.ofBits .f32 0x48800000#32)

/-- A set bit of the mask's comparison is the inequality of the row. -/
theorem gap_of (X : FVec Ideal SX .f32) (hT) (hc) (hs0) (hs63) (hs64) (h) (hu) (b : Fin 2) (r : Fin 4096) (y : Fin 16384 → EReal)
    (hy : (fun c => X (ix3 b r c)) = y) (hm : verdict X hT hc hs0 hs63 hs64 h hu (ix2 b r) = 1#1) :
    above eps (y (order y ⟨0, by omega⟩)) - Finset.univ.inf y
      < (y (order y ⟨63, by omega⟩) - y (order y ⟨64, by omega⟩)) * ((2 ^ 18 : ℝ) : EReal) := by
  unfold verdict at hm
  rw [column_value X 0 (by omega) hT hs0 hc b r y hy, column_value X 63 (by omega) hT hs63 hc b r y hy,
    column_value X 64 (by omega) hT hs64 hc b r y hy, least_value X h hu b r y hy, ofBits_eps, ofBits_width] at hm
  exact lt_of_cmp hm

/-- A value per row, spread along the features, read back. -/
theorem spread_read {α : Type} (Y : (⟨2, ![2, 4096]⟩ : Shape).Idx → α)
    (h1 : (⟨2, ![2, 4096]⟩ : Shape).BroadcastsInDim ⟨3, ![2, 4096, 1]⟩ ![0, 1])
    (h2 : (⟨3, ![2, 4096, 1]⟩ : Shape).BroadcastsInDim ⟨3, ![2, 4096, 2048]⟩ ![0, 1, 2]) (b : Fin 2) (r : Fin 4096) (d : Fin 2048) :
    broadcastInDim ⟨3, ![2, 4096, 2048]⟩ ![0, 1, 2] h2 (broadcastInDim ⟨3, ![2, 4096, 1]⟩ ![0, 1] h1 Y) (ix3 b r d) = Y (ix2 b r) := by
  rw [broadcastInDim_apply ![0, 1, 2] h2 _ (ix3 b r d) (ix3 b r (0 : Fin 1)) (fun a => by
      match a with | ⟨0, _⟩ => rfl | ⟨1, _⟩ => rfl | ⟨2, _⟩ => rfl),
    broadcastInDim_apply ![0, 1] h1 _ (ix3 b r (0 : Fin 1)) (ix2 b r) (fun a => by
      match a with | ⟨0, _⟩ => rfl | ⟨1, _⟩ => rfl)]

variable (x0 : (⟨Cert.ReferenceIdeal.S2x4096x2048, .f32⟩ : BufTy).Contents (Elt Ideal))
  (x1 : (⟨Cert.ReferenceIdeal.S16384x2048, .f32⟩ : BufTy).Contents (Elt Ideal))
  (x2 : (⟨Cert.ReferenceIdeal.S16384, .f32⟩ : BufTy).Contents (Elt Ideal))
  (x3 : (⟨Cert.ReferenceIdeal.S2048x16384, .f32⟩ : BufTy).Contents (Elt Ideal))
  (x4 : (⟨Cert.ReferenceIdeal.S16384, .i32⟩ : BufTy).Contents (Elt Ideal))

/-- Where the mask holds, the row's 64th and 65th largest entries are far enough apart for the bisections. -/
theorem gap (n : Fin 8192) (d : Fin 2048)
    (h : (Cert.On_resolved.fn (F := Ideal) x0 x1 x2 x3 x4).1 (ix3 (batch n) (place n) d) = 1#1) :
    above eps (pre x0 x1 x2 n (order (pre x0 x1 x2 n) ⟨0, by omega⟩)) - Finset.univ.inf (pre x0 x1 x2 n)
      < (pre x0 x1 x2 n (order (pre x0 x1 x2 n) ⟨63, by omega⟩) - pre x0 x1 x2 n (order (pre x0 x1 x2 n) ⟨64, by omega⟩))
        * ((2 ^ 18 : ℝ) : EReal) := by
  refine gap_of (Cert.ReferenceIdeal.Read.val_main_v3 (F := Ideal) x0 x1 x2) Cert.On_resolved.Facts.sliceFits_S2x4096x16384_S2x4096x65
    Cert.On_resolved.Facts.shapeCasts_S2x4096x1_S2x4096 Cert.On_resolved.Facts.slices_S2x4096x65_S2x4096x1_0_0_0
    Cert.On_resolved.Facts.slices_S2x4096x65_S2x4096x1_0_0_63 Cert.On_resolved.Facts.slices_S2x4096x65_S2x4096x1_0_0_64
    Cert.On_resolved.Facts.reducesTo_S2x4096x16384_S2x4096_d2 Cert.On_resolved.Facts.h_S_ (batch n) (place n) _ (row_eq x0 x1 x2 n) ?_
  refine Eq.trans ?_ h
  refine (spread_read _ Cert.On_resolved.Facts.bcast_S2x4096_S2x4096x1_0_1 Cert.On_resolved.Facts.bcast_S2x4096x1_S2x4096x2048_0_1_2
    (batch n) (place n) d).symm.trans ?_
  rfl

end Cert.Mask

end
-- ==== Proof.Threshold.lean ====
/-
  One block of 128 rows of the thresholding kernel, read entry by entry: each row's 128 group maxima, their bisection
  and the bisection over all 16384 entries follow the row's own `threshold`, and the block the kernel writes keeps the
  entries at or above it.
-/
module

public import proofs.«01_k».proof.Proof.Mask
public import proofs.«01_k».proof.Proof.Gen.KernelIdeal.Frame

@[expose] public section

set_option maxRecDepth 16384

noncomputable section

namespace Cert.Threshold

open Idealize.ShloMosaic Idealize.ShloMosaic.ValueIdx Cert.KernelIdeal Cert.KernelIdeal.Gen Cert.Select Cert.Mask

/-- The word of one half. -/
theorem ofBits_half : Ideal.ofBits .f32 0x3F000000#32 = ((1 / 2 : ℝ) : EReal) := by
  simp [Ideal.ofBits, Ideal.ieee, -EReal.coe_mul]; norm_num
/-- The word of one. -/
theorem ofBits_one : Ideal.ofBits .f32 0x3F800000#32 = 1 := by
  simp [Ideal.ofBits, Ideal.ieee, -EReal.coe_mul]; norm_num
/-- The word of 64. -/
theorem ofBits_64 : Ideal.ofBits .f32 0x42800000#32 = ((64 : ℕ) : EReal) := by
  rw [← EReal.coe_coe_eq_natCast]
  simp [Ideal.ofBits, Ideal.ieee, -EReal.coe_mul]; norm_num

/-- A vector per row cast to a column, read at row `r`. -/
theorem column_cast {α : Type} (z : S128.Idx → α) (h : S128.ShapeCasts S128x1) (r : Fin 128) :
    shapeCast S128x1 z h (ix2 r (0 : Fin 1)) = z (ix1 r) :=
  shapeCast_apply z h _ _ (by
    rw [Shape.rowMajor_val_two, Shape.rowMajor_val_one]
    show r.val = r.val * 1 + 0; omega)

/-- A column spread along a row, read at any place of it. -/
theorem column_spread {α : Type} {n : ℕ} (hn : n ≠ 1) (z : S128x1.Idx → α) (h : S128x1.Broadcasts ⟨2, ![128, n]⟩) (r : Fin 128) (c : Fin n) :
    broadcastTo ⟨2, ![128, n]⟩ z h (ix2 r c) = z (ix2 r (0 : Fin 1)) :=
  broadcastTo_apply z h _ _ fun a => by
    match a with
    | ⟨0, _⟩ => rfl
    | ⟨1, _⟩ => rfl

/-- The row `r` of a block, with the column `k` put back. -/
theorem lift_row {n : ℕ} (h : (⟨2, ![128, n]⟩ : Shape).Reduces [1] S128) (r : Fin 128) (k : Fin n) :
    h.lift (ix1 r) k = ix2 r k := by
  funext a; apply Fin.ext
  match a with
  | ⟨0, _⟩ => rfl
  | ⟨1, _⟩ => rfl

/-- A row's maximum. -/
theorem max_row {n : ℕ} (Y : FVec Ideal ⟨2, ![128, n]⟩ .f32) (hr : (⟨2, ![128, n]⟩ : Shape).Reduces [1] S128) (hφ : FKind.Formats .f32)
    (hacc : (0xFF800000#32 : BitVec 32) = FKind.maximumf.neutral .f32 hφ) (r : Fin 128) :
    multiReduction .maximumf [1] S128 Y 0xFF800000#32 hr hφ hacc (ix1 r) = Finset.univ.sup fun c : Fin n => Y (ix2 r c) := by
  refine (Ideal.multiReduction_maximumf_single _ _ _ _ _ _).trans ?_
  refine (congrArg (fun b => Finset.fold max b _ _) ofBits_bot).trans ?_
  refine (fold_max _ _).trans ?_
  exact Finset.sup_congr rfl fun c _ => congrArg Y (lift_row hr r c)

/-- A row's minimum. -/
theorem min_row {n : ℕ} (Y : FVec Ideal ⟨2, ![128, n]⟩ .f32) (hr : (⟨2, ![128, n]⟩ : Shape).Reduces [1] S128) (hφ : FKind.Formats .f32)
    (hacc : (0x7F800000#32 : BitVec 32) = FKind.minimumf.neutral .f32 hφ) (r : Fin 128) :
    multiReduction .minimumf [1] S128 Y 0x7F800000#32 hr hφ hacc (ix1 r) = Finset.univ.inf fun c : Fin n => Y (ix2 r c) := by
  refine (multiReduction_minimumf_eq_fold _ _ _ _ _ _).trans ?_
  refine (Shape.Reduces.fold_filter_drop_single _ _ _ _ _).trans ?_
  refine (congrArg (fun b => Finset.fold min b _ _) ofBits_top).trans ?_
  refine (fold_min _ _).trans ?_
  exact Finset.inf_congr rfl fun c _ => congrArg Y (lift_row hr r c)

/-- A row's number of entries at or above the row's midpoint, counted by adding ones. -/
theorem count_read {n : ℕ} (hn : n ≠ 1) (Y : FVec Ideal ⟨2, ![128, n]⟩ .f32) (M : FVec Ideal S128x1 .f32) (hb : S128x1.Broadcasts ⟨2, ![128, n]⟩)
    (hr : (⟨2, ![128, n]⟩ : Shape).Reduces [1] S128) (hφ : FKind.Formats .f32) (hacc : (0x00000000#32 : BitVec 32) = FKind.add.neutral .f32 hφ)
    (hc : S128.ShapeCasts S128x1) (r : Fin 128) :
    shapeCast S128x1 (multiReduction .add [1] S128 (select (cmpf .oge Y (broadcastTo ⟨2, ![128, n]⟩ M hb))
        (broadcast ⟨2, ![128, n]⟩ (Scalar.ofBits (F := Ideal) .f32 0x3F800000#32))
        (broadcast ⟨2, ![128, n]⟩ (Scalar.ofBits (F := Ideal) .f32 0x00000000#32))) 0x00000000#32 hr hφ hacc) hc (ix2 r (0 : Fin 1))
      = ((atLeast (fun c => Y (ix2 r c)) (M (ix2 r (0 : Fin 1))) : ℕ) : EReal) := by
  rw [column_cast, Ideal.multiReduction_add_single]
  unfold atLeast
  rw [← Finset.sum_boole]
  have key : ∀ k : Fin n, select (cmpf .oge Y (broadcastTo ⟨2, ![128, n]⟩ M hb))
        (broadcast ⟨2, ![128, n]⟩ (Scalar.ofBits (F := Ideal) .f32 0x3F800000#32))
        (broadcast ⟨2, ![128, n]⟩ (Scalar.ofBits (F := Ideal) .f32 0x00000000#32)) (ix2 r k)
      = if M (ix2 r (0 : Fin 1)) ≤ Y (ix2 r k) then (1 : EReal) else 0 := fun k => by
    rw [select_apply, cmpf_apply, column_spread hn, Ideal.cmpf_def]
    show Scalar.select (Ideal.cmp .oge _ _) (Ideal.ofBits .f32 0x3F800000#32) (Ideal.ofBits .f32 0x00000000#32) = _
    rw [ofBits_one, Ideal.ofBits_zero_f32]
    by_cases hle : M (ix2 r (0 : Fin 1)) ≤ Y (ix2 r k) <;> simp [Ideal.cmp, Scalar.select, hle]
  exact Finset.sum_congr rfl fun k _ => (congrArg _ (lift_row hr r k)).trans (key k)

/-- The comparison of that number with 64. -/
theorem reaches_read {n : ℕ} (hn : n ≠ 1) (Y : FVec Ideal ⟨2, ![128, n]⟩ .f32) (M : FVec Ideal S128x1 .f32) (hb : S128x1.Broadcasts ⟨2, ![128, n]⟩)
    (hr : (⟨2, ![128, n]⟩ : Shape).Reduces [1] S128) (hφ : FKind.Formats .f32) (hacc : (0x00000000#32 : BitVec 32) = FKind.add.neutral .f32 hφ)
    (hc : S128.ShapeCasts S128x1) (r : Fin 128) :
    cmpf .oge (shapeCast S128x1 (multiReduction .add [1] S128 (select (cmpf .oge Y (broadcastTo ⟨2, ![128, n]⟩ M hb))
        (broadcast ⟨2, ![128, n]⟩ (Scalar.ofBits (F := Ideal) .f32 0x3F800000#32))
        (broadcast ⟨2, ![128, n]⟩ (Scalar.ofBits (F := Ideal) .f32 0x00000000#32))) 0x00000000#32 hr hφ hacc) hc)
        (broadcast S128x1 (Scalar.ofBits (F := Ideal) .f32 0x42800000#32)) (ix2 r (0 : Fin 1))
      = BitVec.ofBool (decide (64 ≤ atLeast (fun c => Y (ix2 r c)) (M (ix2 r (0 : Fin 1))))) := by
  rw [cmpf_apply, count_read hn, Ideal.cmpf_def]
  show Ideal.cmp .oge _ (Ideal.ofBits .f32 0x42800000#32) = _
  rw [ofBits_64]
  show BitVec.ofBool (decide (((64 : ℕ) : EReal) ≤ _)) = _
  congr 1
  exact decide_eq_decide.2 EReal.natCast_le_iff

variable (v0 : Vec Ideal S128x16384 .f32)

/-- Row `r` of the block. -/
def row (r : Fin 128) (c : Fin 16384) : EReal := v0 (ix2 r c)
/-- The place of the `l`-th entry of group `g`. -/
def place (g l : Fin 128) : Fin 16384 := ⟨g.val * 128 + l.val, by omega⟩
/-- The maximum of group `g` of row `r`. -/
def groups (r g : Fin 128) : EReal := Finset.univ.sup fun l => row v0 r (place g l)

/-- The loaded block, entry by entry. -/
theorem pay1_apply (r : Fin 128) (c : Fin 16384) : k1_pay1 (F := Ideal) v0 (ix2 r c) = row v0 r c := by
  unfold k1_pay1 row
  rw [shapeCast_self]

/-- The maximum of each group of 128 neighbours. -/
theorem pay2_apply (r g : Fin 128) : k1_pay2 (F := Ideal) v0 (ix2 r g) = groups v0 r g := by
  unfold k1_pay2 groups
  refine (Ideal.multiReduction_maximumf_single _ _ _ _ _ _).trans ?_
  refine Eq.trans ?_ (fold_max _ _)
  refine (congrArg (fun b => Finset.fold max b _ _) ofBits_bot).trans ?_
  refine congrArg (fun f => Finset.fold max (⊥ : EReal) f (Finset.univ : Finset (Fin 128))) ?_
  funext l
  have e : ∀ h : S128x128x128.Reduces [2] S128x128, h.lift (ix2 r g) l = ix3 r g l := fun h => by
    funext a; apply Fin.ext
    match a with
    | ⟨0, _⟩ => rfl
    | ⟨1, _⟩ => rfl
    | ⟨2, _⟩ => rfl
  refine (congrArg _ (e _)).trans ?_
  refine (shapeCast_apply _ _ (ix3 r g l) (ix2 r (place g l)) ?_).trans (pay1_apply v0 r _)
  rw [Shape.rowMajor_val_three, Shape.rowMajor_val_two]
  show r.val * 16384 + (g.val * 128 + l.val) = (r.val * 128 + g.val) * 128 + l.val
  omega

/-- The bisection starts at the least group maximum. -/
theorem pay3_apply (r : Fin 128) : k1_pay3 (F := Ideal) v0 (ix2 r (0 : Fin 1)) = Finset.univ.inf (groups v0 r) := by
  unfold k1_pay3
  refine (column_cast _ _ r).trans ((min_row _ _ _ _ r).trans ?_)
  exact congrArg (Finset.univ.inf) (funext fun g => pay2_apply v0 r g)

/-- The bisections end a little above the greatest group maximum. -/
theorem pay4_apply (r : Fin 128) : k1_pay4 (F := Ideal) v0 (ix2 r (0 : Fin 1)) = above eps (Finset.univ.sup (groups v0 r)) := by
  have e : shapeCast S128x1 (multiReduction (F := Ideal) .maximumf [1] S128 (k1_pay2 v0) 0xFF800000#32 KernelIdeal.Facts₀.reduces_S128x128_S128 (.inl rfl) rfl)
      KernelIdeal.Facts₀.shapeCasts_S128_S128x1 (ix2 r (0 : Fin 1)) = Finset.univ.sup (groups v0 r) := by
    refine (column_cast _ _ r).trans ((max_row _ _ _ _ r).trans ?_)
    exact congrArg (Finset.univ.sup) (funext fun g => pay2_apply v0 r g)
  rw [← e, above, ← ofBits_eps]
  rfl

/-- The first loop's midpoint. -/
theorem pay5_apply (a b : FVec Ideal S128x1 .f32) (r : Fin 128) :
    k1_pay5 (F := Ideal) a b (ix2 r (0 : Fin 1)) = ((1 / 2 : ℝ) : EReal) * (a (ix2 r (0 : Fin 1)) + b (ix2 r (0 : Fin 1))) := by
  rw [← ofBits_half]; rfl

/-- The second loop's midpoint. -/
theorem pay9_apply (a b : FVec Ideal S128x1 .f32) (r : Fin 128) :
    k1_pay9 (F := Ideal) a b (ix2 r (0 : Fin 1)) = ((1 / 2 : ℝ) : EReal) * (a (ix2 r (0 : Fin 1)) + b (ix2 r (0 : Fin 1))) := by
  rw [← ofBits_half]; rfl

/-- The first loop asks whether at least 64 group maxima reach the midpoint. -/
theorem pay6_apply (a b : FVec Ideal S128x1 .f32) (r : Fin 128) :
    k1_pay6 (F := Ideal) v0 a b (ix2 r (0 : Fin 1))
      = BitVec.ofBool (decide (64 ≤ atLeast (groups v0 r) (k1_pay5 (F := Ideal) a b (ix2 r (0 : Fin 1))))) := by
  rw [← (funext fun g => pay2_apply v0 r g : (fun g => k1_pay2 (F := Ideal) v0 (ix2 r g)) = groups v0 r)]
  unfold k1_pay6
  exact reaches_read (by decide) _ _ _ _ _ _ _ r

/-- The second loop asks whether at least 64 entries reach the midpoint. -/
theorem pay10_apply (a b : FVec Ideal S128x1 .f32) (r : Fin 128) :
    k1_pay10 (F := Ideal) v0 a b (ix2 r (0 : Fin 1))
      = BitVec.ofBool (decide (64 ≤ atLeast (row v0 r) (k1_pay9 (F := Ideal) a b (ix2 r (0 : Fin 1))))) := by
  rw [← (funext fun c => pay1_apply v0 r c : (fun c => k1_pay1 (F := Ideal) v0 (ix2 r c)) = row v0 r)]
  unfold k1_pay10
  exact reaches_read (by decide) _ _ _ _ _ _ _ r

/-- Choosing ends by the comparison is one bisection step. -/
theorem step_select (c : EReal → Prop) [DecidablePred c] (a b : EReal) (w : BitVec 1) (m : EReal)
    (hm : m = ((1 / 2 : ℝ) : EReal) * (a + b)) (hw : w = BitVec.ofBool (decide (c m))) :
    (Scalar.select w m a, Scalar.select w b m) = step c (a, b) := by
  subst hw
  unfold step
  simp only [← hm]
  by_cases h : c m <;> simp [h, Scalar.select]

/-- The same for the count of a row's entries. -/
theorem step_count {n : ℕ} (x : Fin n → EReal) (a b : EReal) (w : BitVec 1) (m : EReal)
    (hm : m = ((1 / 2 : ℝ) : EReal) * (a + b)) (hw : w = BitVec.ofBool (decide (64 ≤ atLeast x m))) :
    (Scalar.select w m a, Scalar.select w b m) = step (fun θ => 64 ≤ atLeast x θ) (a, b) :=
  step_select (fun θ => 64 ≤ atLeast x θ) a b w m hm hw

/-- A pair of columns at row `r`. -/
def at_ (s : FVec Ideal S128x1 .f32 × FVec Ideal S128x1 .f32) (r : Fin 128) : EReal × EReal :=
  (s.1 (ix2 r (0 : Fin 1)), s.2 (ix2 r (0 : Fin 1)))

/-- A fold whose every trip is, at row `r`, a bisection step is there the iterated step. -/
theorem fold_row {n : ℕ} (c : EReal → Prop) [DecidablePred c]
    (g : Fin n → FVec Ideal S128x1 .f32 × FVec Ideal S128x1 .f32 → FVec Ideal S128x1 .f32 × FVec Ideal S128x1 .f32)
    (s : FVec Ideal S128x1 .f32 × FVec Ideal S128x1 .f32) (r : Fin 128) (hg : ∀ k s, at_ (g k s) r = step c (at_ s r)) :
    at_ (Scf.fold g s) r = (step c)^[n] (at_ s r) := by
  have key : ∀ (l : List (Fin n)) s, at_ (l.foldl (fun acc k => g k acc) s) r = (step c)^[l.length] (at_ s r) := by
    intro l
    induction l with
    | nil => intro s; rfl
    | cons k l ih => intro s; rw [List.foldl_cons, ih, hg, List.length_cons, Function.iterate_succ_apply]
  rw [Scf.fold_eq, key, List.length_finRange]

/-- One trip of the first loop is one bisection step on the group maxima. -/
theorem step1 (s : FVec Ideal S128x1 .f32 × FVec Ideal S128x1 .f32) (r : Fin 128) :
    at_ (k1_pay7 (F := Ideal) v0 s.1 s.2, k1_pay8 (F := Ideal) v0 s.1 s.2) r = step (fun θ => 64 ≤ atLeast (groups v0 r) θ) (at_ s r) :=
  step_count (groups v0 r) _ _ _ _ (pay5_apply s.1 s.2 r) (pay6_apply v0 s.1 s.2 r)

/-- The second loop's new lower end. -/
theorem pay11_apply (a b : FVec Ideal S128x1 .f32) (r : Fin 128) : k1_pay11 (F := Ideal) v0 a b (ix2 r (0 : Fin 1))
    = Scalar.select (k1_pay10 (F := Ideal) v0 a b (ix2 r (0 : Fin 1))) (k1_pay9 (F := Ideal) a b (ix2 r (0 : Fin 1))) (a (ix2 r (0 : Fin 1))) := by
  unfold k1_pay11
  exact select_apply _ _ _ _

/-- The second loop's new upper end. -/
theorem pay12_apply (a b : FVec Ideal S128x1 .f32) (r : Fin 128) : k1_pay12 (F := Ideal) v0 a b (ix2 r (0 : Fin 1))
    = Scalar.select (k1_pay10 (F := Ideal) v0 a b (ix2 r (0 : Fin 1))) (b (ix2 r (0 : Fin 1))) (k1_pay9 (F := Ideal) a b (ix2 r (0 : Fin 1))) := by
  unfold k1_pay12
  exact select_apply _ _ _ _

set_option maxRecDepth 200000 in
/-- One trip of the second loop is one bisection step on the row. -/
theorem step2 (s : FVec Ideal S128x1 .f32 × FVec Ideal S128x1 .f32) (r : Fin 128) :
    at_ (k1_pay11 (F := Ideal) v0 s.1 s.2, k1_pay12 (F := Ideal) v0 s.1 s.2) r = step (fun θ => 64 ≤ atLeast (row v0 r) θ) (at_ s r) :=
  (congrArg₂ Prod.mk (pay11_apply v0 s.1 s.2 r) (pay12_apply v0 s.1 s.2 r)).trans
    (step_count (row v0 r) _ _ _ _ (pay9_apply s.1 s.2 r) (pay10_apply v0 s.1 s.2 r))

/-- The stored block: the entries that reach the threshold, zeros elsewhere. -/
theorem pay13_apply (θ : FVec Ideal S128x1 .f32) (r : Fin 128) (c : Fin 16384) :
    k1_pay13 (F := Ideal) v0 θ (ix2 r c) = if θ (ix2 r (0 : Fin 1)) ≤ row v0 r c then row v0 r c else 0 := by
  show Scalar.select (Ideal.cmp .oge (k1_pay1 (F := Ideal) v0 (ix2 r c)) (broadcastTo S128x16384 θ _ (ix2 r c)))
    (k1_pay1 (F := Ideal) v0 (ix2 r c)) (Ideal.ofBits .f32 0x00000000#32) = _
  rw [column_spread (by decide), pay1_apply, Ideal.ofBits_zero_f32]
  by_cases hle : θ (ix2 r (0 : Fin 1)) ≤ row v0 r c <;> simp [Ideal.cmp, Scalar.select, hle]

/-- The first loop has 20 trips. -/
theorem trips1 : k1_t1_loop.trips = 20 := by decide
/-- The second loop has 18 trips. -/
theorem trips2 : k1_t2_loop.trips = 18 := by decide

/-- The bisection of the group maxima, at row `r`. -/
theorem fold1 (r : Fin 128) :
    at_ (Scf.fold (fun (_ : Fin k1_t1_loop.trips) s => (k1_pay7 (F := Ideal) v0 s.1 s.2, k1_pay8 (F := Ideal) v0 s.1 s.2)) (k1_pay3 v0, k1_pay4 v0)) r
      = (step fun θ => 64 ≤ atLeast (groups v0 r) θ)^[20] (Finset.univ.inf (groups v0 r), above eps (Finset.univ.sup (groups v0 r))) := by
  refine (fold_row (fun θ => 64 ≤ atLeast (groups v0 r) θ) _ _ r (fun _ s => step1 v0 s r)).trans ?_
  rw [trips1, at_]
  dsimp only
  rw [pay3_apply, pay4_apply]

set_option maxRecDepth 200000 in
/-- The bisection of the entries, at row `r`. -/
theorem fold2 (θ : FVec Ideal S128x1 .f32) (r : Fin 128) :
    at_ (Scf.fold (fun (_ : Fin k1_t2_loop.trips) s => (k1_pay11 (F := Ideal) v0 s.1 s.2, k1_pay12 (F := Ideal) v0 s.1 s.2)) (θ, k1_pay4 v0)) r
      = (step fun θ => 64 ≤ atLeast (row v0 r) θ)^[18] (θ (ix2 r (0 : Fin 1)), above eps (Finset.univ.sup (groups v0 r))) := by
  refine (fold_row (fun θ => 64 ≤ atLeast (row v0 r) θ) _ _ r (fun _ s => step2 v0 s r)).trans ?_
  rw [trips2, at_]
  dsimp only
  rw [pay4_apply]

/-- Both bisections, at row `r`. -/
theorem fold_threshold (r : Fin 128) :
    (Scf.fold (fun (_ : Fin k1_t2_loop.trips) s => (k1_pay11 (F := Ideal) v0 s.1 s.2, k1_pay12 (F := Ideal) v0 s.1 s.2))
      ((Scf.fold (fun (_ : Fin k1_t1_loop.trips) s => (k1_pay7 (F := Ideal) v0 s.1 s.2, k1_pay8 (F := Ideal) v0 s.1 s.2)) (k1_pay3 v0, k1_pay4 v0)).1,
        k1_pay4 v0)).1 (ix2 r (0 : Fin 1)) = threshold eps (row v0 r) (groups v0 r) := by
  refine (congrArg Prod.fst (fold2 v0 _ r)).trans ?_
  unfold threshold
  refine congrArg (fun z => ((step fun θ => 64 ≤ atLeast (row v0 r) θ)^[18] (z, above eps (Finset.univ.sup (groups v0 r)))).1) ?_
  exact congrArg Prod.fst (fold1 v0 r)

/-- What the kernel makes of a block: the entries of each row at or above the row's threshold, zeros elsewhere. -/
theorem block_apply (c : Dev nD) (i : grid1.Coords) (arg1 : Memref sig .tc .vmem S128x16384 .f32) (harg1 : arg1.IsWhole)
    (arg2 : Memref sig .tc .vmem S128x16384 .bf16) (harg2 : arg2.IsWhole) (r : Fin 128) (f : Fin 16384) :
    out1_A_1 (F := Ideal) c i arg1 harg1 arg2 harg2 v0 (ix2 r f)
      = if threshold eps (row v0 r) (groups v0 r) ≤ row v0 r f then row v0 r f else 0 := by
  unfold out1_A_1
  have hz : (![0, 0] : Fin 2 → Nat) = fun _ => 0 := funext fun a => by fin_cases a <;> rfl
  rw [View.read_writes_eq_canon _ _ _ (cover1_A_1 c i arg1 harg1 arg2 harg2 v0)]
  unfold kernelRun1_A
  dsimp only
  rw [View.canon_unit_zero hz]
  unfold kernelRun1_A.sl.r_1 kernelRun1_A.sl.r
  simp only [View.readAt_eq_ld, harg1.read_unread, View.ld_unit_zero (S := S128x16384) hz]
  rw [pay13_apply]
  rw [fold_threshold]

end Cert.Threshold

end
-- ==== Proof.Masked.lean ====
/-
  The array of masked pre-activations the thresholding kernel leaves: every row of the pre-activations it is given, with
  the entries below the row's threshold replaced by zeros.
-/
module

public import proofs.«01_k».proof.Proof.Threshold
public import proofs.«01_k».proof.Proof.Blocks

@[expose] public section

set_option maxRecDepth 16384

noncomputable section

namespace Cert.Masked

open Idealize.ShloMosaic Idealize.ShloMosaic.TcCoe Idealize.ShloMosaic.ValueIdx Idealize.SL.Sem
open Idealize.ShloMosaic.Pipeline (Dat)
open Cert.KernelIdeal Cert.KernelIdeal.Gen Cert.Select Cert.Mask Cert.Blocks

variable (V : (c : Dev nD) → (b : Ref sig .tc) → Buf (Elt Ideal) ((c : Thread nD τ).loc b))

/-- The maxima of a row's 128 groups of 128 neighbouring entries. -/
def groupMax (x : Fin 16384 → EReal) (g : Fin 128) : EReal := Finset.univ.sup fun l => x (Threshold.place g l)

/-- A row with its entries below the threshold replaced by zeros. -/
def keep (x : Fin 16384 → EReal) (f : Fin 16384) : EReal := if threshold eps x (groupMax x) ≤ x f then x f else 0

/-- The pre-activations the kernel reads. -/
def given (c : Dev nD) (i : S8192x16384.Idx) : EReal := V c main_call0_v5_0 i

/-- The array the kernel leaves. -/
def masked (c : Dev nD) : Buf (Elt Ideal) ((c : Thread nD τ).loc main_call0_v6) :=
  fun (i : S8192x16384.Idx) => keep (fun f => given V c (ix2 (i 0) f)) (i 1)

/-- The array's entry at a row and a column. -/
theorem masked_at (c : Dev nD) {i : S8192x16384.Idx} {n : Fin 8192} {f : Fin 16384} (h : i = ix2 n f) :
    (masked V c : S8192x16384.Idx → EReal) i = keep (fun f => given V c (ix2 n f)) f := by subst h; rfl

/-- Point `t` reads row block `t`. -/
theorem idx_in : ∀ t : Fin grid1.N, win1_0.index t 0 = t.val ∧ win1_0.index t 1 = 0 := by decide +kernel
/-- Point `t` writes row block `t`. -/
theorem idx_out : ∀ t : Fin grid1.N, win1_1.index t 0 = t.val ∧ win1_1.index t 1 = 0 := by decide +kernel

/-- Row `r` of the block at point `t`. -/
def rowOf (t : Fin cfg1.N) (r : Fin 128) : Fin 8192 := ⟨t.val * 128 + r.val, by
  have h : t.val < 64 := t.isLt
  omega⟩

/-- An entry of the point's block. -/
theorem iblk_apply (c : Dev nD) (t : Fin cfg1.N) (r : Fin 128) (f : Fin 16384) :
    (iblk1 V c 0 t : Vec Ideal S128x16384 .f32) (ix2 r f) = given V c (ix2 (rowOf t r) f) := by
  unfold iblk1
  rw [View.read_apply]
  show V c main_call0_v5_0 _ = V c main_call0_v5_0 _
  congr 1
  funext a
  apply Fin.ext
  match a with
  | ⟨0, _⟩ => show win1_0.index t 0 * 128 + 1 * r.val = t.val * 128 + r.val; rw [(idx_in t).1]; omega
  | ⟨1, _⟩ => show win1_0.index t 1 * 16384 + 1 * f.val = f.val; rw [(idx_in t).2]; omega

/-- An entry of the block the point leaves. -/
theorem outs_apply (c : Dev nD) (t : Fin cfg1.N) (r : Fin 128) (f : Fin 16384) :
    (outsAt1 V c t : Vec Ideal S128x16384 .bf16) (ix2 r f) = keep (fun f => given V c (ix2 (rowOf t r) f)) f := by
  unfold outsAt1
  refine (Threshold.block_apply _ _ _ _ _ _ _ r f).trans ?_
  have e : Threshold.row (iblk1 V c 0 t : Vec Ideal S128x16384 .f32) r = fun f => given V c (ix2 (rowOf t r) f) :=
    funext fun f => iblk_apply V c t r f
  have eg : Threshold.groups (iblk1 V c 0 t : Vec Ideal S128x16384 .f32) r = groupMax (fun f => given V c (ix2 (rowOf t r) f)) :=
    funext fun g => by unfold Threshold.groups groupMax; rw [e]
  rw [eg, e]
  rfl

/-- What is written back is the block of the array stated above. -/
theorem flushed_eq (c : Dev nD) (t : Fin cfg1.N) :
    (dat1 V c).flushed 1 t = ((cfg1.win 1).blk t).view.read (Elt Ideal) (masked V c) := by
  show (cfg1.win 1).cut (grid1.coords t) ((dat1 V c).after 1 t) = _
  rw [after1_1]
  funext j
  rw [View.read_apply]
  obtain ⟨r, f, rfl⟩ : ∃ (r : Fin 128) (f : Fin 16384), j = ix2 r f := ⟨j 0, j 1, eq_ix2 j⟩
  refine (outs_apply V c t r f).trans ?_
  have e : ((cfg1.win 1).blk t).view.emb (ix2 r f) = (ix2 (rowOf t r) f : S8192x16384.Idx) := by
    funext a
    apply Fin.ext
    match a with
    | ⟨0, _⟩ => show win1_1.index t 0 * 128 + 1 * r.val = t.val * 128 + r.val; rw [(idx_out t).1]; omega
    | ⟨1, _⟩ => show win1_1.index t 1 * 16384 + 1 * f.val = f.val; rw [(idx_out t).2]; omega
  exact (cast_same _ _ _ (masked_at V c e)).symm

/-- A row lies in its row block. -/
theorem mem_block (t : Fin cfg1.N) (i : ((View.whole main_call0_v6).slice (win1_1.rect t)).ty.Idx)
    (h : (i 0 : Nat) / 128 = t.val) : i ∈ ((View.whole main_call0_v6).slice (win1_1.rect t)).set := by
  have h0 : (i 0 : Nat) < 8192 := (i 0).isLt
  have h1 : (i 1 : Nat) < 16384 := (i 1).isLt
  rw [View.set_slice_whole, Rect.mem_set_unit]
  intro a
  match a with
  | ⟨0, _⟩ => show win1_1.index t 0 * 128 ≤ (i 0 : Nat) ∧ (i 0 : Nat) < win1_1.index t 0 * 128 + 128
              rw [(idx_out t).1]; omega
  | ⟨1, _⟩ => show win1_1.index t 1 * 16384 ≤ (i 1 : Nat) ∧ (i 1 : Nat) < win1_1.index t 1 * 16384 + 16384
              rw [(idx_out t).2]; omega

/-- The final array. -/
theorem final (c : Dev nD) : (dat1 V c).arrAt 1 cfg1.N = masked V c :=
  (dat1 V c).arrAt_eq_of_cover 1 (masked V c) (fun t _ => flushed_eq V c t) fun i => by
    let t : Fin cfg1.N := ⟨(i 0 : Nat) / 128, show (i 0 : Nat) / 128 < 64 from Nat.div_lt_of_lt_mul (show (i 0 : Nat) < 128 * 64 from (i 0).isLt)⟩
    exact ⟨t, flush1_1 t, mem_block t i rfl⟩

end Cert.Masked

end
-- ==== Proof.Decode.lean ====
/-
  The array the decoding kernel leaves: the product of the masked pre-activations with the transpose of the decoder's
  matrix. Eight points, each over 2048 of the 16384 columns, add up one block of the result.
-/
module

public import proofs.«01_k».proof.Proof.Blocks
public import proofs.«01_k».proof.Proof.Gen.KernelIdeal.Frame
public import Idealize.ShloMosaic.Lib.ValueLayout
public import Idealize.ShloMosaic.Lib.MatmulPlain
public import Idealize.ShloMosaic.Lib.Pipeline.Value

@[expose] public section

set_option maxRecDepth 16384

noncomputable section

namespace Cert.Decode

open Idealize.ShloMosaic Idealize.ShloMosaic.TcCoe Idealize.ShloMosaic.ValueIdx Idealize.SL.Sem
open Idealize.ShloMosaic.Pipeline (Dat)
open Cert.KernelIdeal Cert.KernelIdeal.Gen Cert.Blocks

/-- One point's step: the block so far plus the product of the point's two blocks. -/
theorem step_apply (x0 : Vec Ideal S1024x2048 .bf16) (x1 : Vec Ideal S2048x2048 .bf16) (acc : Vec Ideal S1024x2048 .f32)
    (r : Fin 1024) (d : Fin 2048) :
    k2_pay2 x0 x1 acc (ix2 r d) = acc (ix2 r d) + ∑ k : Fin 2048, x0 (ix2 r k) * x1 (ix2 d k) := by
  unfold k2_pay2
  simp only [shapeCast_self]
  refine (congrArg (acc (ix2 r d) + ·) (Ideal.matmul_transposedRhs_apply (M := 1024) (K := 2048) (N := 2048) none x0 x1
    (constant S1024x2048 .f32 0x00000000#32) r d)).trans ?_
  show acc (ix2 r d) + (Ideal.ofBits .f32 0x00000000#32 + _) = _
  rw [Ideal.ofBits_zero_f32, zero_add]

/-- A point after a block's first leaves the step over what the point before left. -/
theorem out_B (c : Dev nD) (i : grid2.Coords) (a2 : Memref sig .tc .vmem S1024x2048 .bf16) (h2 : a2.IsWhole)
    (a3 : Memref sig .tc .vmem S2048x2048 .bf16) (h3 : a3.IsWhole) (a4 : Memref sig .tc .vmem S1024x2048 .f32) (h4 : a4.IsWhole)
    (hc : ¬cond2_0 i) (x0 : Vec Ideal S1024x2048 .bf16) (x1 : Vec Ideal S2048x2048 .bf16) (xo : Vec Ideal S1024x2048 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S1024x2048) hz,
    View.ld_unit_zero (S := S2048x2048) hz]

/-- A block's first point leaves the step over zeros. -/
theorem out_A (c : Dev nD) (i : grid2.Coords) (a2 : Memref sig .tc .vmem S1024x2048 .bf16) (h2 : a2.IsWhole)
    (a3 : Memref sig .tc .vmem S2048x2048 .bf16) (h3 : a3.IsWhole) (a4 : Memref sig .tc .vmem S1024x2048 .f32) (h4 : a4.IsWhole)
    (hc : cond2_0 i) (x0 : Vec Ideal S1024x2048 .bf16) (x1 : Vec Ideal S2048x2048 .bf16) :
    out2_A_2 c i a2 h2 a3 h3 a4 h4 hc x0 x1 = k2_pay2 x0 x1 (k2_pay1 (F := Ideal)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x2048) hz,
    View.ld_unit_zero (S := S2048x2048) hz]

variable (V : (c : Dev nD) → (b : Ref sig .tc) → Buf (Elt Ideal) ((c : Thread nD τ).loc b))

/-- The masked pre-activations the kernel reads. -/
def given (c : Dev nD) (i : S8192x16384.Idx) : EReal := V c main_call0_v6 i
/-- The decoder's matrix. -/
def weight (c : Dev nD) (i : S2048x16384.Idx) : EReal := V c main_call0_v7 i

/-- An entry of the product. -/
def product (c : Dev nD) (n : Fin 8192) (d : Fin 2048) : EReal :=
  ∑ k : Fin 16384, given V c (ix2 n k) * weight V c (ix2 d k)

/-- The array the kernel leaves. -/
def decoded (c : Dev nD) : Buf (Elt Ideal) ((c : Thread nD τ).loc main_call0_v8) :=
  fun (i : S8192x2048.Idx) => product V c (i 0) (i 1)

/-- The array's entry at a row and a column. -/
theorem decoded_at (c : Dev nD) {i : S8192x2048.Idx} {n : Fin 8192} {d : Fin 2048} (h : i = ix2 n d) :
    (decoded V c : S8192x2048.Idx → EReal) i = product V c n d := by subst h; rfl

/-- Point `t` reads row block `t / 8` and column block `t % 8` of the masked pre-activations. -/
theorem idx_in0 : ∀ t : Fin grid2.N, win2_0.index t 0 = t.val / 8 ∧ win2_0.index t 1 = t.val % 8 := by decide +kernel
/-- Point `t` reads column block `t % 8` of the decoder's matrix, all its rows. -/
theorem idx_in1 : ∀ t : Fin grid2.N, win2_1.index t 0 = 0 ∧ win2_1.index t 1 = t.val % 8 := by decide +kernel
/-- Point `t` works on row block `t / 8` of the result. -/
theorem idx_out : ∀ t : Fin grid2.N, win2_2.index t 0 = t.val / 8 ∧ win2_2.index t 1 = 0 := by decide +kernel

/-- Row `r` of the blocks at point `n`. -/
def rowOf (n : ℕ) (r : Fin 1024) : Fin 8192 := ⟨n / 8 % 8 * 1024 + r.val, by omega⟩
/-- Column `k` of the blocks at point `n`. -/
def colOf (n : ℕ) (k : Fin 2048) : Fin 16384 := ⟨n % 8 * 2048 + k.val, by omega⟩

/-- An entry of the point's block of masked pre-activations. -/
theorem iblk_given (c : Dev nD) (t : Fin cfg2.N) (r : Fin 1024) (k : Fin 2048) :
    (iblk2 V c 0 t : Vec Ideal S1024x2048 .bf16) (ix2 r k) = given V c (ix2 (rowOf t.val r) (colOf t.val k)) := by
  have ht : t.val < 64 := t.isLt
  unfold iblk2
  rw [View.read_apply]
  show V c main_call0_v6 _ = V c main_call0_v6 _
  congr 1
  funext a
  apply Fin.ext
  match a with
  | ⟨0, _⟩ => show win2_0.index t 0 * 1024 + 1 * r.val = t.val / 8 % 8 * 1024 + r.val; rw [(idx_in0 t).1]; omega
  | ⟨1, _⟩ => show win2_0.index t 1 * 2048 + 1 * k.val = t.val % 8 * 2048 + k.val; rw [(idx_in0 t).2]; omega

/-- An entry of the point's block of the decoder's matrix. -/
theorem iblk_weight (c : Dev nD) (t : Fin cfg2.N) (d : Fin 2048) (k : Fin 2048) :
    (iblk2 V c 1 t : Vec Ideal S2048x2048 .bf16) (ix2 d k) = weight V c (ix2 d (colOf t.val k)) := by
  unfold iblk2
  rw [View.read_apply]
  show V c main_call0_v7 _ = V c main_call0_v7 _
  congr 1
  funext a
  apply Fin.ext
  match a with
  | ⟨0, _⟩ => show win2_1.index t 0 * 2048 + 1 * d.val = d.val; rw [(idx_in1 t).1]; omega
  | ⟨1, _⟩ => show win2_1.index t 1 * 2048 + 1 * k.val = t.val % 8 * 2048 + k.val; rw [(idx_in1 t).2]; omega

/-- What point `n` adds at an index of its block. -/
def part (c : Dev nD) (n : ℕ) (i : S1024x2048.Idx) : EReal :=
  ∑ k : Fin 2048, given V c (ix2 (rowOf n (i 0)) (colOf n k)) * weight V c (ix2 (i 1) (colOf n k))

/-- A point adds its part of the product to what it finds. -/
theorem step_part (c : Dev nD) (t : Fin cfg2.N) (acc : Vec Ideal S1024x2048 .f32) (i : S1024x2048.Idx) :
    k2_pay2 (iblk2 V c 0 t) (iblk2 V c 1 t) acc i = acc i + part V c t.val i := by
  obtain ⟨r, d, rfl⟩ : ∃ (r : Fin 1024) (d : Fin 2048), i = ix2 r d := ⟨i 0, i 1, eq_ix2 i⟩
  refine (step_apply _ _ _ r d).trans ?_
  unfold part
  simp only [iblk_given, iblk_weight]

/-- What the block holds at its last point: the sum over all the columns. -/
theorem outs_apply (c : Dev nD) (t : Fin cfg2.N) (h7 : t.val % 8 = 7) (r : Fin 1024) (d : Fin 2048) :
    outsAt2 V c t.val t.isLt (ix2 r d)
      = ∑ k : Fin 16384, given V c (ix2 (rowOf t.val r) k) * weight V c (ix2 d k) := by
  have hN : cfg2.N = 64 := N_2
  have ht : t.val < 64 := t.isLt
  have hb : 8 * (t.val / 8) + t.val % 8 < cfg2.N := by have := t.isLt; omega
  have e := Pipeline.eq_accAt_of_mod (N := cfg2.N) (fun n h => outsAt2 V c n h) 8
    (fun n h => k2_pay2 (iblk2 V c 0 ⟨n, h⟩) (iblk2 V c 1 ⟨n, h⟩) (k2_pay1 (F := Ideal)))
    (fun n h acc => k2_pay2 (iblk2 V c 0 ⟨n, h⟩) (iblk2 V c 1 ⟨n, h⟩) acc)
    (fun n h hn => (outsAt2_A V c ⟨n, h⟩ hn).trans (out_A ..))
    (fun n h hn => (outsAt2_B V c ⟨n + 1, h⟩ hn).trans (out_B ..))
    (by decide) t.val t.isLt hb
  refine (congrFun e (ix2 r d)).trans ?_
  refine (Pipeline.accAt_add_apply _ _ (fun _ => (0 : EReal)) (part V c) (8 * (t.val / 8)) 7 ?_ ?_ (t.val % 8) (by omega) hb (ix2 r d)).trans ?_
  · intro h i
    refine (step_part V c ⟨_, h⟩ _ i).trans ?_
    show Ideal.ofBits .f32 0x00000000#32 + _ = _
    rw [Ideal.ofBits_zero_f32]
  · intro n h acc i _ _
    exact step_part V c ⟨n, h⟩ acc i
  · rw [zero_add, h7]
    refine sum_blocks 8 2048 (fun k : Fin 16384 => given V c (ix2 (rowOf t.val r) k) * weight V c (ix2 d k))
      (fun s k => given V c (ix2 (rowOf (8 * (t.val / 8) + s) r) (colOf (8 * (t.val / 8) + s) k))
        * weight V c (ix2 d (colOf (8 * (t.val / 8) + s) k))) fun s k hb => ?_
    have hs := s.isLt
    have e1 : rowOf (8 * (t.val / 8) + s.val) r = rowOf t.val r := Fin.ext (by unfold rowOf; dsimp only; omega)
    have e2 : colOf (8 * (t.val / 8) + s.val) k = ⟨s.val * 2048 + k.val, hb⟩ := Fin.ext (by unfold colOf; dsimp only; omega)
    rw [e1, e2]

/-- What is written back is the block of the array stated above. -/
theorem flushed_eq (c : Dev nD) (t : Fin cfg2.N) (hf : (cfg2.win 2).flush t = true) :
    (dat2 V c).flushed 2 t = ((cfg2.win 2).blk t).view.read (Elt Ideal) (decoded V c) := by
  have ht : t.val < 64 := t.isLt
  show (cfg2.win 2).cut (grid2.coords t) ((dat2 V c).after 2 t) = _
  rw [after2_2]
  funext j
  rw [View.read_apply]
  obtain ⟨r, d, rfl⟩ : ∃ (r : Fin 1024) (d : Fin 2048), j = ix2 r d := ⟨j 0, j 1, eq_ix2 j⟩
  refine (outs_apply V c t ((flush2_2 t).mp hf) r d).trans ?_
  have e : ((cfg2.win 2).blk t).view.emb (ix2 r d) = (ix2 (rowOf t.val r) d : S8192x2048.Idx) := by
    funext a
    apply Fin.ext
    match a with
    | ⟨0, _⟩ => show win2_2.index t 0 * 1024 + 1 * r.val = t.val / 8 % 8 * 1024 + r.val; rw [(idx_out t).1]; omega
    | ⟨1, _⟩ => show win2_2.index t 1 * 2048 + 1 * d.val = d.val; rw [(idx_out t).2]; omega
  exact (cast_same _ _ _ (decoded_at V c e)).symm

/-- A row of the result lies in its row block. -/
theorem mem_block (t : Fin cfg2.N) (i : ((View.whole main_call0_v8).slice (win2_2.rect t)).ty.Idx)
    (h : (i 0 : Nat) / 1024 = t.val / 8) : i ∈ ((View.whole main_call0_v8).slice (win2_2.rect t)).set := by
  have h0 : (i 0 : Nat) < 8192 := (i 0).isLt
  have h1 : (i 1 : Nat) < 2048 := (i 1).isLt
  rw [View.set_slice_whole, Rect.mem_set_unit]
  intro a
  match a with
  | ⟨0, _⟩ => show win2_2.index t 0 * 1024 ≤ (i 0 : Nat) ∧ (i 0 : Nat) < win2_2.index t 0 * 1024 + 1024
              rw [(idx_out t).1]; omega
  | ⟨1, _⟩ => show win2_2.index t 1 * 2048 ≤ (i 1 : Nat) ∧ (i 1 : Nat) < win2_2.index t 1 * 2048 + 2048
              rw [(idx_out t).2]; omega

/-- The final array. -/
theorem final (c : Dev nD) : (dat2 V c).arrAt 2 cfg2.N = decoded V c :=
  (dat2 V c).arrAt_eq_of_cover 2 (decoded V c) (flushed_eq V c) fun i => by
    have h0 : (i 0 : Nat) < 8192 := (i 0).isLt
    let t : Fin cfg2.N := ⟨(i 0 : Nat) / 1024 * 8 + 7, show (i 0 : Nat) / 1024 * 8 + 7 < 64 by omega⟩
    have ht : t.val = (i 0 : Nat) / 1024 * 8 + 7 := rfl
    exact ⟨t, (flush2_2 t).mpr (by omega), mem_block t i (by omega)⟩

end Cert.Decode

end
-- ==== Proof.Boundary.lean ====
/-
  The host operations around the three kernels of the idealized program, each stretch read at what it leaves: the arguments
  reshaped before the first kernel, the decoder's matrix before the last, and the two results after it.
-/
module

public import proofs.«01_k».proof.Proof.Encode
public import proofs.«01_k».proof.Proof.Masked
public import proofs.«01_k».proof.Proof.Decode

@[expose] public section

set_option maxRecDepth 16384

noncomputable section

namespace Cert.Boundary

open Idealize.ShloMosaic hiding ix2 ix3 eq_ix2
open Idealize.ShloMosaic.TcCoe Idealize.ShloMosaic.ValueIdx Idealize.SL.Sem
open Cert.KernelIdeal Cert.KernelIdeal.Gen Cert.Blocks

/-- How many features are dead. -/
def deadCount (w : Vec Ideal S16384 .i32) : Vec Ideal S_ .i32 :=
  Host.reduce IntOp.addi (extui 32 (cmpi .sge w (broadcastInDim S16384 ![] bcast_S_S16384 (constantI S_ 32 1000#32))) natLt_1_32)
    (constantI S_ 32 0#32) reducesTo_S16384_S_d0 h_S_

/-- The auxiliary loss the host computes from the dead features' sum. -/
def loss (w : Vec Ideal S16384 .i32) (s : Vec Ideal S1x1 .f32) : Vec Ideal S_ .f32 :=
  select (cmpi .sgt (deadCount w) (constantI S_ 32 0#32))
    (mulf (F := Ideal) (φ := .f32) (Host.negf (Host.divf (shapeCast S_ s shapeCasts_S1x1_S_)
      (sitofp (F := Ideal) .f32 (maxsi (muli (deadCount w) (constantI S_ 32 8192#32)) (constantI S_ 32 1#32)))))
      (constant (F := Ideal) S_ .f32 0x3D000000#32))
    (constant (F := Ideal) S_ .f32 0x00000000#32)

/-- The second result after the last stretch is the loss of the dead features and their sum. -/
theorem after_loss (G : Valuation τ sig (Elt Ideal)) :
    StableHlo.after (hostOps3 (F := Ideal)) G (Proc.devRef .tc main_v0_1)
      = loss (G (Proc.devRef .tc main_arg4)) (G (Proc.devRef .tc main_call0_v5_1)) := by
  simp only [hostOps3, StableHlo.TRef.nullary, StableHlo.TRef.unary, StableHlo.TRef.binary, StableHlo.TRef.ternary, StableHlo.TRef.reshape,
    StableHlo.TRef.toBuf, StableHlo.TRef.ofBuf, cast_eq]
  after_results_simp <;> rfl

/-- The first result after the last stretch is the decoded rows, laid out by batch. -/
theorem after_reshape (G : Valuation τ sig (Elt Ideal)) :
    StableHlo.after hostOps3 G (Proc.devRef .tc main_v0_0)
      = shapeCast (α := Elt Ideal .f32) S2x4096x2048 (G (Proc.devRef .tc main_call0_v8) : Vec Ideal S8192x2048 .f32) shapeCasts_S8192x2048_S2x4096x2048 := by
  simp only [hostOps3, StableHlo.TRef.nullary, StableHlo.TRef.unary, StableHlo.TRef.binary, StableHlo.TRef.ternary, StableHlo.TRef.reshape,
    StableHlo.TRef.toBuf, StableHlo.TRef.ofBuf, cast_eq]
  after_results_simp <;> rfl

/-- The decoder's matrix before the last kernel, entry by entry: over the extended reals the cast changes nothing. -/
theorem after_decoder (G : Valuation τ sig (Elt Ideal)) (i : S2048x16384.Idx) :
    (StableHlo.after hostOps2 G (Proc.devRef .tc main_call0_v7) : Vec Ideal S2048x16384 .bf16) i
      = (G (Proc.devRef .tc main_arg3) : Vec Ideal S2048x16384 .f32) i := by
  have h : (StableHlo.after hostOps2 G (Proc.devRef .tc main_call0_v7) : Vec Ideal S2048x16384 .bf16)
      = truncf (F := Ideal) .bf16 (G (Proc.devRef .tc main_arg3) : Vec Ideal S2048x16384 .f32) bitsLt_bf16_f32 := by
    simp only [hostOps2, StableHlo.TRef.unary,
      StableHlo.TRef.toBuf, StableHlo.TRef.ofBuf, cast_eq]
    after_results_simp <;> rfl
  rw [h]; rfl

/-- The input before the first kernel: its rows one after another, cast. -/
theorem after_input (G : Valuation τ sig (Elt Ideal)) :
    (StableHlo.after hostOps0 G (Proc.devRef .tc main_call0_v1) : Vec Ideal S8192x2048 .bf16)
      = truncf (F := Ideal) .bf16 (shapeCast S8192x2048 (G (Proc.devRef .tc main_arg0) : Vec Ideal S2x4096x2048 .f32) shapeCasts_S2x4096x2048_S8192x2048 : Vec Ideal S8192x2048 .f32) bitsLt_bf16_f32 := by
  simp only [hostOps0, StableHlo.TRef.unary, StableHlo.TRef.reshape,
    StableHlo.TRef.toBuf, StableHlo.TRef.ofBuf, cast_eq]
  after_results_simp <;> rfl

/-- The encoder's matrix before the first kernel: cast. -/
theorem after_encoder (G : Valuation τ sig (Elt Ideal)) :
    (StableHlo.after hostOps0 G (Proc.devRef .tc main_call0_v2) : Vec Ideal S16384x2048 .bf16)
      = truncf (F := Ideal) .bf16 (G (Proc.devRef .tc main_arg1) : Vec Ideal S16384x2048 .f32) bitsLt_bf16_f32 := by
  simp only [hostOps0, StableHlo.TRef.unary, StableHlo.TRef.reshape,
    StableHlo.TRef.toBuf, StableHlo.TRef.ofBuf, cast_eq]
  after_results_simp <;> rfl

/-- The bias before the first kernel: as one row. -/
theorem after_bias (G : Valuation τ sig (Elt Ideal)) :
    (StableHlo.after hostOps0 G (Proc.devRef .tc main_call0_v3) : Vec Ideal S1x16384 .f32)
      = shapeCast S1x16384 (G (Proc.devRef .tc main_arg2) : Vec Ideal S16384 .f32) shapeCasts_S16384_S1x16384 := by
  simp only [hostOps0, StableHlo.TRef.unary, StableHlo.TRef.reshape,
    StableHlo.TRef.toBuf, StableHlo.TRef.ofBuf, cast_eq]
  after_results_simp <;> rfl

/-- The ages of the features before the first kernel: as one row. -/
theorem after_steps (G : Valuation τ sig (Elt Ideal)) :
    (StableHlo.after hostOps0 G (Proc.devRef .tc main_call0_v4) : Vec Ideal S1x16384 .i32)
      = shapeCast S1x16384 (G (Proc.devRef .tc main_arg4) : Vec Ideal S16384 .i32) shapeCasts_S16384_S1x16384 := by
  simp only [hostOps0, StableHlo.TRef.unary, StableHlo.TRef.reshape,
    StableHlo.TRef.toBuf, StableHlo.TRef.ofBuf, cast_eq]
  after_results_simp <;> rfl

end Cert.Boundary

end
-- ==== Proof.Value.lean ====
/-
  The two results of the idealized kernel in terms of its arguments.
-/
module

public import proofs.«01_k».proof.Proof.Boundary
public import proofs.«01_k».proof.Proof.Reference

@[expose] public section

set_option maxRecDepth 16384

noncomputable section

namespace Cert.Value

open Idealize.ShloMosaic hiding ix1 ix2 ix3 eq_ix2
open Idealize.ShloMosaic.TcCoe Idealize.ShloMosaic.ValueIdx Idealize.SL.Sem
open Cert.KernelIdeal Cert.KernelIdeal.Gen Cert.Blocks Cert.Boundary
open Cert.Reference (batch place pre)

variable (m : (ℓ : Loc nD τ sig) → Buf (Elt Ideal) ℓ) (ρ : Dev nD → PrngReg) (c : Dev nD)

/-- The input on device `c`. -/
def a0 : Vec Ideal S2x4096x2048 .f32 := m ((c : Thread nD τ).loc main_arg0)
/-- The encoder's matrix. -/
def a1 : Vec Ideal S16384x2048 .f32 := m ((c : Thread nD τ).loc main_arg1)
/-- The encoder's bias. -/
def a2 : Vec Ideal S16384 .f32 := m ((c : Thread nD τ).loc main_arg2)
/-- The decoder's matrix. -/
def a3 : Vec Ideal S2048x16384 .f32 := m ((c : Thread nD τ).loc main_arg3)
/-- How long each feature has not fired. -/
def a4 : Vec Ideal S16384 .i32 := m ((c : Thread nD τ).loc main_arg4)

/-- A row of the flattened input is the input's row at that batch and place. -/
theorem rows_apply (x : Vec Ideal S2x4096x2048 .f32) (n : Fin 8192) (k : Fin 2048) :
    shapeCast S8192x2048 x shapeCasts_S2x4096x2048_S8192x2048 (ix2 n k) = x (ix3 (batch n) (place n) k) :=
  shapeCast_apply _ _ _ _ (by
    rw [Shape.rowMajor_val_three, Shape.rowMajor_val_two]
    show (n.val / 4096 * 4096 + n.val % 4096) * 2048 + k.val = n.val * 2048 + k.val
    omega)

/-- A vector laid out as one row. -/
theorem line_apply {α : Type} (x : S16384.Idx → α) (f : Fin 16384) :
    shapeCast S1x16384 x shapeCasts_S16384_S1x16384 (ix2 0 f) = x (ix1 f) :=
  shapeCast_apply _ _ _ _ (by
    rw [Shape.rowMajor_val_one, Shape.rowMajor_val_two]
    show f.val = 0 * 16384 + f.val
    omega)

/-- What the first kernel reads as its input. -/
theorem input_eq (n : Fin 8192) (k : Fin 2048) : Encode.input (V1 m ρ) c (ix2 n k) = a0 m c (ix3 (batch n) (place n) k) := by
  unfold Encode.input
  exact (congrFun (after_input (W0 m ρ c)) (ix2 n k)).trans (rows_apply _ n k)

/-- What it reads as the encoder's matrix. -/
theorem weight_eq (f : Fin 16384) (k : Fin 2048) : Encode.weight (V1 m ρ) c (ix2 f k) = a1 m c (ix2 f k) := by
  unfold Encode.weight
  exact congrFun (after_encoder (W0 m ρ c)) (ix2 f k)

/-- What it reads as the bias. -/
theorem bias_eq (f : Fin 16384) : Encode.bias (V1 m ρ) c (ix2 0 f) = a2 m c (ix1 f) := by
  unfold Encode.bias
  exact (congrFun (after_bias (W0 m ρ c)) (ix2 0 f)).trans (line_apply _ f)

/-- What it reads as the features' ages. -/
theorem steps_eq (f : Fin 16384) : Encode.steps (V1 m ρ) c (ix2 0 f) = a4 m c (ix1 f) := by
  unfold Encode.steps
  exact (congrFun (after_steps (W0 m ρ c)) (ix2 0 f)).trans (line_apply _ f)

/-- The first kernel's entry is the reference's pre-activation. -/
theorem entry_eq (n : Fin 8192) (f : Fin 16384) : Encode.entry (V1 m ρ) c n f = pre (a0 m c) (a1 m c) (a2 m c) n f := by
  unfold Encode.entry pre
  simp only [bias_eq, input_eq, weight_eq]

/-- What the second kernel is given. -/
theorem given_eq (n : Fin 8192) (f : Fin 16384) : Masked.given (V2 m ρ) c (ix2 n f) = pre (a0 m c) (a1 m c) (a2 m c) n f := by
  unfold Masked.given
  refine (congrFun ((W2_arr m ρ c 4).trans (Encode.final_block (V1 m ρ) c)) (ix2 n f)).trans ?_
  exact (Encode.encoded_at (V1 m ρ) c rfl).trans (entry_eq m ρ c n f)

/-- What the third kernel is given: the entries that reach their row's threshold. -/
theorem kept_eq (n : Fin 8192) (f : Fin 16384) :
    Decode.given (V4 m ρ) c (ix2 n f) = Masked.keep (pre (a0 m c) (a1 m c) (a2 m c) n) f := by
  unfold Decode.given
  refine (congrFun ((W4_of m ρ c main_call0_v6 (by decide)).trans ((W3_arr m ρ c 1).trans (Masked.final (V2 m ρ) c))) (ix2 n f)).trans ?_
  refine (Masked.masked_at (V2 m ρ) c rfl).trans ?_
  exact congrArg (Masked.keep · f) (funext fun g => given_eq m ρ c n g)

/-- What the third kernel reads as the decoder's matrix. -/
theorem decoder_eq (d : Fin 2048) (f : Fin 16384) : Decode.weight (V4 m ρ) c (ix2 d f) = a3 m c (ix2 d f) := by
  unfold Decode.weight
  exact (after_decoder (W3 m ρ c) (ix2 d f)).trans (congrFun (W3_args m ρ c main_arg3 (by decide)) (ix2 d f))

/-- The third kernel's product in terms of the arguments. -/
theorem product_eq (n : Fin 8192) (d : Fin 2048) : Decode.product (V4 m ρ) c n d
    = ∑ f : Fin 16384, Masked.keep (pre (a0 m c) (a1 m c) (a2 m c) n) f * a3 m c (ix2 d f) := by
  unfold Decode.product
  simp only [kept_eq, decoder_eq]

/-- The first result: the masked pre-activations of a row times the decoder's matrix. -/
theorem result (b : Fin 2) (r : Fin 4096) (d : Fin 2048) (n : Fin 8192) (hn : n.val = b.val * 4096 + r.val) :
    (W6 m ρ c (Proc.devRef .tc main_v0_0) : Vec Ideal S2x4096x2048 .f32) (ix3 b r d)
      = ∑ f : Fin 16384, Masked.keep (pre (a0 m c) (a1 m c) (a2 m c) n) f * a3 m c (ix2 d f) := by
  refine (congrFun (after_reshape (W5 m ρ c)) (ix3 b r d)).trans ?_
  refine (shapeCast_apply _ _ _ (ix2 n d) (by
    rw [Shape.rowMajor_val_three, Shape.rowMajor_val_two]
    show n.val * 2048 + d.val = (b.val * 4096 + r.val) * 2048 + d.val
    rw [hn])).trans ?_
  refine (congrFun ((W5_arr m ρ c 2).trans (Decode.final (V4 m ρ) c)) (ix2 n d)).trans ?_
  exact (Decode.decoded_at (V4 m ρ) c rfl).trans (product_eq m ρ c n d)

/-- The second result: the loss of the sum over the dead features. -/
theorem result_loss :
    (W6 m ρ c (Proc.devRef .tc main_v0_1) : Vec Ideal S_ .f32) = loss (a4 m c) (fun _ => Encode.deadSum (V1 m ρ) c) := by
  refine (after_loss (W5 m ρ c)).trans ?_
  have h4 : (W5 m ρ c (Proc.devRef .tc main_arg4) : Vec Ideal S16384 .i32) = a4 m c := W5_args m ρ c main_arg4 (by decide)
  have h5 : (W5 m ρ c (Proc.devRef .tc main_call0_v5_1) : Vec Ideal S1x1 .f32) = fun _ => Encode.deadSum (V1 m ρ) c :=
    (W5_of m ρ c main_call0_v5_1 (by decide)).trans ((W4_of m ρ c main_call0_v5_1 (by decide)).trans
      ((W3_of m ρ c main_call0_v5_1 (by decide)).trans ((W2_arr m ρ c 5).trans (Encode.final_sum (V1 m ρ) c))))
  exact congrArg₂ loss h4 h5

end Cert.Value

end
-- ==== Proof.Final.lean ====
/-
  The first result of the idealized kernel equals the reference's wherever the mask asks for it: there the threshold keeps
  exactly the 64 largest entries of the row.
-/
module

public import proofs.«01_k».proof.Proof.Value
public import proofs.«01_k».proof.Proof.Mask

@[expose] public section

set_option maxRecDepth 16384

noncomputable section

namespace Cert.Final

open Idealize.ShloMosaic hiding ix1 ix2 ix3 eq_ix2
open Idealize.ShloMosaic.ValueIdx
open Cert.Reference (batch place pre)
open Cert.Select Cert.Mask

variable (x0 : Vec Ideal Cert.KernelIdeal.S2x4096x2048 .f32) (x1 : Vec Ideal Cert.KernelIdeal.S16384x2048 .f32)
  (x2 : Vec Ideal Cert.KernelIdeal.S16384 .f32) (x3 : Vec Ideal Cert.KernelIdeal.S2048x16384 .f32) (x4 : Vec Ideal Cert.KernelIdeal.S16384 .i32)

/-- The groups cover every column. -/
theorem place_onto (j : Fin 16384) : ∃ (g : Fin 128) (l : Fin 128), Threshold.place g l = j :=
  ⟨⟨j.val / 128, by omega⟩, ⟨j.val % 128, by omega⟩, Fin.ext (show j.val / 128 * 128 + j.val % 128 = j.val by omega)⟩

/-- Different groups share no column. -/
theorem place_group (g l g' l' : Fin 128) (h : Threshold.place g l = Threshold.place g' l') : g = g' := by
  have e : g.val * 128 + l.val = g'.val * 128 + l'.val := congrArg Fin.val h
  exact Fin.ext (by omega)

/-- Where the mask asks for a row, the kernel's masked row is the reference's. -/
theorem keep_eq (n : Fin 8192) (d : Fin 2048)
    (h : (Cert.On_resolved.fn (F := Ideal) x0 x1 x2 x3 x4).1 (ix3 (batch n) (place n) d) = 1#1) (f : Fin 16384) :
    Masked.keep (pre x0 x1 x2 n) f = Cert.ReferenceIdeal.Read.val_main_v23 (F := Ideal) x0 x1 x2 (ix2 n f) := by
  obtain ⟨i, rfl⟩ := (order_bijective (pre x0 x1 x2 n)).2 f
  rw [Cert.Reference.v23_apply]
  unfold Masked.keep
  have key := threshold_le_iff eps eps_pos (pre x0 x1 x2 n) (Masked.groupMax (pre x0 x1 x2 n)) Threshold.place (by norm_num)
    (by norm_num) place_group place_onto (fun _ => rfl) (order (pre x0 x1 x2 n)) (order_bijective _)
    (fun a b hab => order_antitone _ a b hab) (gap x0 x1 x2 x3 x4 n d h) i
  simp only [key]

/-- Where the mask asks for an entry, the two programs' first results agree. -/
theorem result_eq (b : Fin 2) (r : Fin 4096) (d : Fin 2048) (n : Fin 8192) (hn : n.val = b.val * 4096 + r.val)
    (h : (Cert.On_resolved.fn (F := Ideal) x0 x1 x2 x3 x4).1 (ix3 b r d) = 1#1) :
    ∑ f : Fin 16384, Masked.keep (pre x0 x1 x2 n) f * x3 (ix2 d f)
      = Cert.ReferenceIdeal.Read.val_main_v26 (F := Ideal) x0 x1 x2 x3 (ix3 b r d) := by
  have hb : batch n = b := Fin.ext (show n.val / 4096 = b.val by omega)
  have hr : place n = r := Fin.ext (show n.val % 4096 = r.val by omega)
  have e : (⟨b.val * 4096 + r.val, by omega⟩ : Fin 8192) = n := Fin.ext hn.symm
  rw [Cert.Reference.v26_apply, e]
  refine Finset.sum_congr rfl fun f _ => ?_
  rw [keep_eq x0 x1 x2 x3 x4 n d (by rw [hb, hr]; exact h)]

end Cert.Final

end
-- ==== Proof.Loss.lean ====
/-
  The second result: the kernel's sum over the dead features, block after block, is the reference's sum over the whole table,
  and the two host programs make the same loss of it.
-/
module

public import proofs.«01_k».proof.Proof.Value
public import Idealize.ShloMosaic.Lib.Pointwise.Index

@[expose] public section

set_option maxRecDepth 16384

noncomputable section

namespace Cert.Loss

open Idealize.ShloMosaic hiding ix1 ix2 ix3 eq_ix2
open Idealize.ShloMosaic.ValueIdx
open Cert.Reference (batch place pre)
open Cert.ReferenceIdeal.Read

variable (x0 : Vec Ideal Cert.KernelIdeal.S2x4096x2048 .f32) (x1 : Vec Ideal Cert.KernelIdeal.S16384x2048 .f32)
  (x2 : Vec Ideal Cert.KernelIdeal.S16384 .f32) (x4 : Vec Ideal Cert.KernelIdeal.S16384 .i32)

/-- The comparison's bit converted as an unsigned word is the mark of a dead feature. -/
theorem dead_unsigned (w : BitVec 32) :
    FloatOps.uitofp (F := Ideal) .f32 (IntOp.cmpi .sge w 1000#32) = Encode.dead w := by
  unfold Encode.dead
  show (((IntOp.cmpi .sge w 1000#32).toNat : ℝ) : EReal) = if IntOp.cmpi .sge w 1000#32 = 1#1 then 1 else 0
  generalize IntOp.cmpi .sge w 1000#32 = b
  rcases BitVec.eq_zero_or_eq_one b with rfl | rfl
  · rw [if_neg (by decide)]; simp
  · rw [if_pos rfl]; simp

/-- The marks, spread over the reference's table. -/
theorem mark (b : Fin 2) (r : Fin 4096) (f : Fin 16384) :
    val_main_v33 (F := Ideal) x4 (ix3 b r f) = Encode.dead (x4 (ix1 f)) := by
  rw [val_main_v33_apply, val_main_v32_apply, val_main_v31_apply, val_main_v28_apply, val_main_v27_apply]
  have e : idx_main_v32 (idx_main_v33 (ix3 b r f)) = ix1 f := by
    funext a; match a with | ⟨0, _⟩ => rfl
  rw [e]
  exact dead_unsigned (x4 (ix1 f))

/-- One term of the reference's sum. -/
theorem term (n : Fin 8192) (f : Fin 16384) :
    val_main_v34 (F := Ideal) x0 x1 x2 x4 (ix3 (batch n) (place n) f) = pre x0 x1 x2 n f * Encode.dead (x4 (ix1 f)) := by
  rw [val_main_v34_apply, Cert.Reference.v3_apply, mark]
  rfl

/-- A sum over batches and places is a sum over rows. -/
theorem sum_rows (g : Fin 2 → Fin 4096 → EReal) : ∑ b, ∑ r, g b r = ∑ n : Fin 8192, g (batch n) (place n) := by
  rw [← Fintype.sum_prod_type', ← Equiv.sum_comp (finProdFinEquiv (m := 2) (n := 4096)) fun n : Fin 8192 => g (batch n) (place n)]
  refine Finset.sum_congr rfl fun p _ => ?_
  obtain ⟨b, r⟩ := p
  have hb : batch (finProdFinEquiv (b, r)) = b := Fin.ext (show (r.val + 4096 * b.val) / 4096 = b.val by omega)
  have hr : place (finProdFinEquiv (b, r)) = r := Fin.ext (show (r.val + 4096 * b.val) % 4096 = r.val by omega)
  show g b r = _
  rw [hb, hr]

/-- The reference's sum. -/
theorem sum_eq (i : Cert.ReferenceIdeal.S_.Idx) : val_main_v35 (F := Ideal) x0 x1 x2 x4 i
    = ∑ n : Fin 8192, ∑ f : Fin 16384, pre x0 x1 x2 n f * Encode.dead (x4 (ix1 f)) := by
  rw [val_main_v35_apply]
  show Ideal.ofBits .f32 0x00000000#32 + _ = _
  rw [Ideal.ofBits_zero_f32, zero_add]
  refine (sum_idx3 (n0 := 2) (n1 := 4096) (n2 := 16384) _).trans ?_
  refine (sum_rows _).trans ?_
  exact Finset.sum_congr rfl fun n _ => Finset.sum_congr rfl fun f _ => term x0 x1 x2 x4 n f

/-- The two programs count the dead features alike. -/
theorem count_eq : Boundary.deadCount x4 = val_main_v30 (F := Ideal) x4 := rfl

/-- The two programs' numbers of summands are the same word. -/
theorem size_eq : muli (Boundary.deadCount x4) (constantI Cert.KernelIdeal.S_ 32 8192#32) = val_main_v37 (F := Ideal) x4 := by
  funext i
  rw [val_main_v37_apply, val_main_v36_apply, count_eq]
  show val_main_v30 (F := Ideal) x4 i * 8192#32 = val_main_v30 (F := Ideal) x4 i * 2#32 * 4096#32
  rw [BitVec.mul_assoc]
  rfl

/-- The two losses agree. -/
theorem loss_eq (s : EReal) (hs : s = ∑ n : Fin 8192, ∑ f : Fin 16384, pre x0 x1 x2 n f * Encode.dead (x4 (ix1 f))) :
    Boundary.loss x4 (fun _ => s) = val_main_v44 (F := Ideal) x0 x1 x2 x4 := by
  have h : (fun _ => s : Vec Ideal Cert.KernelIdeal.S_ .f32) = val_main_v35 (F := Ideal) x0 x1 x2 x4 :=
    funext fun i => hs.trans (sum_eq x0 x1 x2 x4 i).symm
  unfold Boundary.loss
  rw [size_eq, count_eq]
  show select _ (mulf (F := Ideal) (φ := .f32) (Host.negf (Host.divf (fun _ => s : Vec Ideal Cert.KernelIdeal.S_ .f32) _)) _) _ = _
  rw [h]
  rfl

end Cert.Loss

end
-- ==== Proof.Claims.lean ====
/-
  The reference's frame and the value claim: the two programs' runs, joined at both results.
-/
module

public import proofs.«01_k».proof.Defs
public import proofs.«01_k».proof.Proof.Run
public import proofs.«01_k».proof.Proof.Final
public import proofs.«01_k».proof.Proof.Loss
public import proofs.«01_k».proof.Proof.Gen.ReferenceIdeal.Run

@[expose] public section

set_option maxRecDepth 16384

noncomputable section

namespace Cert.Claims

open Idealize.ShloMosaic hiding ix1 ix2 ix3 eq_ix2 eq_ix3
open Idealize.ShloMosaic.TcCoe Idealize.ShloMosaic.ValueIdx Idealize.SL.Sem
open Cert.Reference (batch place pre)
open Cert.KernelIdeal.Gen (W6)
open Cert.Value (a0 a1 a2 a3 a4)

/-- The reference is a straight line of host operations that declares no semaphore: every run ends with the arguments as
    launched and every counter at zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Where the mask asks for an entry of the first result, the kernel's is the reference's of the same arguments. -/
theorem first (i : Cert.KernelIdeal.S2x4096x2048.Idx)
    (h : (Cert.On_resolved.fn (F := Ideal) (a0 m c) (a1 m c) (a2 m c) (a3 m c) (a4 m c)).1 i = 1#1) :
    (W6 m ρ c (Proc.devRef .tc Cert.KernelIdeal.main_v0_0) : Vec Ideal Cert.KernelIdeal.S2x4096x2048 .f32) i
      = Cert.ReferenceIdeal.Read.val_main_v26 (F := Ideal) (a0 m c) (a1 m c) (a2 m c) (a3 m c) i := by
  obtain ⟨b, r, d, rfl⟩ : ∃ (b : Fin 2) (r : Fin 4096) (d : Fin 2048), i = ix3 b r d := ⟨i 0, i 1, i 2, eq_ix3 i⟩
  have hn : b.val * 4096 + r.val < 8192 := by omega
  exact (Cert.Value.result m ρ c b r d ⟨_, hn⟩ rfl).trans (Cert.Final.result_eq _ _ _ _ _ b r d ⟨_, hn⟩ rfl h)

/-- The second result, the kernel's and the reference's of the same arguments. -/
theorem second :
    (W6 m ρ c (Proc.devRef .tc Cert.KernelIdeal.main_v0_1) : Vec Ideal Cert.KernelIdeal.S_ .f32)
      = Cert.ReferenceIdeal.Read.val_main_v44 (F := Ideal) (a0 m c) (a1 m c) (a2 m c) (a4 m c) :=
  (Cert.Value.result_loss m ρ c).trans (Cert.Loss.loss_eq _ _ _ _ _ (by
    unfold Encode.deadSum
    simp only [Cert.Value.entry_eq, Cert.Value.steps_eq]))
end

/-- The value claim: wherever the mask is set, the idealized kernel and the reference end with the same entries of both
    results. -/
theorem algebraic : Cert.algebraic_KernelIdeal_ReferenceIdeal_on_resolved := by
  intro m ρ m' ρ' _ hagree
  refine ⟨fun c => Cert.ReferenceIdeal.Read.val_main_v26 (F := Ideal) (a0 m c) (a1 m c) (a2 m c) (a3 m c),
    fun c => Cert.ReferenceIdeal.Read.val_main_v44 (F := Ideal) (a0 m c) (a1 m c) (a2 m c) (a4 m c), ?_, ?_⟩
  · exact (θ_run Cert.KernelIdeal.defs _ _).mono
      (fun _ h c => ⟨fun i hi => (congrFun (h c).1 i).trans (first m ρ c i hi),
        fun i _ => (congrFun (h c).2.1 i).trans (congrFun (second m ρ c) i), (h c).2.2⟩)
      (Cert.Run.run (F := Ideal) m ρ)
  · refine (θ_run Cert.ReferenceIdeal.defs _ _).mono (fun r h c => ?_) (Cert.ReferenceIdeal.Value.run (F := Ideal) m' ρ')
    have e := hagree c
    have r0 : r.2.mem ((c.tc : Thread Cert.ReferenceIdeal.nD Cert.ReferenceIdeal.τ).loc Cert.ReferenceIdeal.main_v26)
        = Cert.ReferenceIdeal.Read.val_main_v26 (F := Ideal) (a0 m c) (a1 m c) (a2 m c) (a3 m c) := by
      refine (h c).1.trans ?_
      rw [e.1, e.2.1, e.2.2.1, e.2.2.2.1]
      exact Cert.ReferenceIdeal.Read.val_main_v26_eq (F := Ideal) _ _ _ _
    have r1 : r.2.mem ((c.tc : Thread Cert.ReferenceIdeal.nD Cert.ReferenceIdeal.τ).loc Cert.ReferenceIdeal.main_v44)
        = Cert.ReferenceIdeal.Read.val_main_v44 (F := Ideal) (a0 m c) (a1 m c) (a2 m c) (a4 m c) := by
      refine (h c).2.1.trans ?_
      rw [e.1, e.2.1, e.2.2.1, e.2.2.2.2]
      exact Cert.ReferenceIdeal.Read.val_main_v44_eq (F := Ideal) _ _ _ _
    exact ⟨fun i _ => congrFun r0 i, fun i _ => congrFun r1 i, (h c).2.2⟩

end Cert.Claims

end
-- ==== Proof.lean ====
/-
  The proof of everything the certificate claims: the frames of the kernel, of its idealized form and of the reference, that
  the idealization kept the program, and that the idealized kernel and the reference agree at both results.
-/
module

public import proofs.«01_k».proof.Defs
public import proofs.«01_k».proof.Proof.Gen.Kernel.Frame
public import proofs.«01_k».proof.Proof.Gen.KernelIdeal.Frame
public import proofs.«01_k».proof.Proof.Gen.On_resolved
public import proofs.«01_k».proof.Proof.Claims
public import Idealize.ShloMosaic.Adequacy
public import Idealize.ShloMosaic.Init

@[expose] public section

noncomputable section

namespace Cert.Proof

open Idealize.ShloMosaic Idealize.SL.Sem

/-- All five claims. The frames of the two kernel programs are those of their three launches; the idealization rewrote
    nothing; the other two are proved in the module of claims. -/
theorem claim : Cert.Claim :=
  ⟨Cert.Kernel.Gen.facts, Cert.KernelIdeal.Gen.facts, Cert.ReferenceIdeal.Gen.facts, Cert.On_resolved.Gen.facts,
    fun m ρ _ => Cert.Kernel.Gen.frame m ρ, fun m ρ _ => Cert.KernelIdeal.Gen.frame m ρ, Cert.Claims.frame_reference, trivial,
    Cert.Claims.algebraic⟩

end Cert.Proof

end
